-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1x768 : Shape := ⟨2, ![1, 768]⟩
abbrev S8x192x768 : Shape := ⟨3, ![8, 192, 768]⟩
abbrev S8x768 : Shape := ⟨2, ![8, 768]⟩
abbrev S8 : Shape := ⟨1, ![8]⟩
abbrev S_ : Shape := ⟨0, ![]⟩
abbrev S1 : Shape := ⟨1, ![1]⟩
abbrev S1x192x768 : Shape := ⟨3, ![1, 192, 768]⟩
abbrev S192x768 : Shape := ⟨2, ![192, 768]⟩
abbrev S768 : Shape := ⟨1, ![768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S8x192x768, .f32⟩
  | .local _ .vmem, ⟨1, _⟩ => ⟨S1x768, .f32⟩
  | .local _ .vmem, ⟨2, _⟩ => ⟨S8x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_149 : BitVec 32 := 0#32
  ![v2.toNat, 0]
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v154 : BitVec 32 := Scalar.addi v2 c1_i32_143
  let c8_i32_144 : BitVec 32 := 8#32
  let v155 : BitVec 32 := Scalar.remsi v154 c8_i32_144
  let c1_i32_147 : BitVec 32 := 1#32
  let v156 : BitVec 32 := Scalar.muli v155 c1_i32_147
  let v157 : BitVec 32 := Scalar.addi c0_i32_148 v156
  v157.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_150 : BitVec 32 := 2#32
  let v163 : BitVec 32 := Scalar.addi v2 c2_i32_150
  let c8_i32_151 : BitVec 32 := 8#32
  let v164 : BitVec 32 := Scalar.remsi v163 c8_i32_151
  let c1_i32_154 : BitVec 32 := 1#32
  let v165 : BitVec 32 := Scalar.muli v164 c1_i32_154
  let v166 : BitVec 32 := Scalar.addi c0_i32_155 v165
  v166.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_157 : BitVec 32 := 3#32
  let v172 : BitVec 32 := Scalar.addi v2 c3_i32_157
  let c8_i32_158 : BitVec 32 := 8#32
  let v173 : BitVec 32 := Scalar.remsi v172 c8_i32_158
  let c1_i32_161 : BitVec 32 := 1#32
  let v174 : BitVec 32 := Scalar.muli v173 c1_i32_161
  let v175 : BitVec 32 := Scalar.addi c0_i32_162 v174
  v175.toNat
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_164 : BitVec 32 := 4#32
  let v181 : BitVec 32 := Scalar.addi v2 c4_i32_164
  let c8_i32_165 : BitVec 32 := 8#32
  let v182 : BitVec 32 := Scalar.remsi v181 c8_i32_165
  let c1_i32_168 : BitVec 32 := 1#32
  let v183 : BitVec 32 := Scalar.muli v182 c1_i32_168
  let v184 : BitVec 32 := Scalar.addi c0_i32_169 v183
  v184.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_171 : BitVec 32 := 5#32
  let v190 : BitVec 32 := Scalar.addi v2 c5_i32_171
  let c8_i32_172 : BitVec 32 := 8#32
  let v191 : BitVec 32 := Scalar.remsi v190 c8_i32_172
  let c1_i32_175 : BitVec 32 := 1#32
  let v192 : BitVec 32 := Scalar.muli v191 c1_i32_175
  let v193 : BitVec 32 := Scalar.addi c0_i32_176 v192
  v193.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_178 : BitVec 32 := 6#32
  let v199 : BitVec 32 := Scalar.addi v2 c6_i32_178
  let c8_i32_179 : BitVec 32 := 8#32
  let v200 : BitVec 32 := Scalar.remsi v199 c8_i32_179
  let c1_i32_182 : BitVec 32 := 1#32
  let v201 : BitVec 32 := Scalar.muli v200 c1_i32_182
  let v202 : BitVec 32 := Scalar.addi c0_i32_183 v201
  v202.toNat
def k0_dev14 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_185 : BitVec 32 := 7#32
  let v208 : BitVec 32 := Scalar.addi v2 c7_i32_185
  let c8_i32_186 : BitVec 32 := 8#32
  let v209 : BitVec 32 := Scalar.remsi v208 c8_i32_186
  let c1_i32_189 : BitVec 32 := 1#32
  let v210 : BitVec 32 := Scalar.muli v209 c1_i32_189
  let v211 : BitVec 32 := Scalar.addi c0_i32_190 v210
  v211.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v218 : Index := Scalar.indexCast v2
  let c0_194 : Index := 0#32
  ![v218.toNat, 0]
-- ==== ReferenceIdeal.lean ====
abbrev S12288x768 : Shape := ⟨2, ![12288, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S12288x768, .f32⟩
  | .hbm, ⟨1, _⟩ => ⟨S_, .f32⟩
  | .hbm, ⟨2, _⟩ => ⟨S768, .f32⟩
  | .hbm, ⟨3, _⟩ => ⟨S1x768, .f32⟩
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Schedule.lean ====
/-
  The eight-device maximum: its buffers, its semaphore cells, and the one-round schedule by which the devices
  hand one another rows of the gathering buffer.

  Every device reduces its own block of the argument to one row (its "part"), writes the row into row `c` of
  the gathering buffer of each of the seven others, and reduces the eight rows it then holds. Before any row is
  written, every device signals the barrier semaphore of the seven others; the signal gives the signalled
  device the right to write its row in the signaller's gathering buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.ValueLayout
public import Idealize.ShloMosaic.Lib.Tactic

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the exchange: cells of the machine, duties named by the distance between two devices, less one. -/
abbrev UB : Type := URounds (GSem nD τ sig) (Fin 7)
/-- The pipeline's share of the algebra, the exchange's, and the counters of the local copies. -/
abbrev UU : Type := UR sig nD τ × (UB × Counters)

local notation "𝕄" => MT nD τ sig Unit (Elt F) ℕ UU ℕ

/-- Where the pipeline's share sits. -/
abbrev EP : Emb (UR sig nD τ) (MT nD τ sig Unit (Elt F) ℕ UU ℕ) := embL
/-- Where the exchange's share sits. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
/-- Where the local copies' counters sit. -/
abbrev EC : UEmb Counters (MT nD τ sig Unit (Elt F) ℕ UU ℕ) := countersEmb

instance ER_landsIn : (ER : Emb UB 𝕄).LandsIn (upEmb : UEmb _ 𝕄) := by unfold ER; infer_instance

variable (m : (ℓ : Loc nD τ sig) → Buf (Elt F) ℓ)

/-! ## Going round the eight devices -/

/-- The device `k + 1` places after `c`. -/
def fw (c : Dev nD) (k : Fin 7) : Dev nD := ⟨(c.val + (k.val + 1)) % 8, Nat.mod_lt _ (by decide)⟩
/-- The device `k + 1` places before `c`: the same as `7 - k` places after. -/
abbrev bk (c : Dev nD) (k : Fin 7) : Dev nD := fw c k.rev

theorem bk_fw (c : Dev nD) (k : Fin 7) : bk (fw c k) k = c := by revert c k; decide
theorem fw_bk (c : Dev nD) (k : Fin 7) : fw (bk c k) k = c := by revert c k; decide
theorem fw_ne (c : Dev nD) (k : Fin 7) : fw c k ≠ c := by revert c k; decide
theorem fw_inj (c : Dev nD) : Function.Injective (fw c) := by revert c; decide
theorem univ_fw (c : Dev nD) : (Finset.univ : Finset (Dev nD)) = insert c (Finset.univ.map ⟨fw c, fw_inj c⟩) := by revert c; decide

/-- Going `k + 1` places on, as a rearrangement of the devices. -/
def turn (k : Fin 7) : Dev nD ≃ Dev nD := ⟨fun c => fw c k, fun c => bk c k, fun c => bk_fw c k, fun c => fw_bk c k⟩

omit [FloatOps F] in
/-- A resource per device is the resource of one device and those of the seven others in turn. -/
theorem bigSep_devs (c : Dev nD) (Φ : Dev nD → sProp 𝕄) :
    bigSep Finset.univ Φ = iprop(Φ c ∗ bigSep Finset.univ fun k => Φ (fw c k)) := by
  rw [univ_fw c, bigSep_insert (by
    intro h
    obtain ⟨k, -, hk⟩ := Finset.mem_map.mp h
    exact fw_ne c k hk), bigSep_map]
  rfl

/-! ## A list of resources, some done and the rest to come -/

/-- Numbers below `n` that are `k` or more. -/
def since {n : ℕ} (k : ℕ) : Finset (Fin n) := Finset.univ.filter fun i => k ≤ i.val
/-- Numbers below `n` that are less than `k`. -/
def upto {n : ℕ} (k : ℕ) : Finset (Fin n) := Finset.univ.filter fun i => i.val < k

theorem since_zero {n : ℕ} : (since 0 : Finset (Fin n)) = Finset.univ := by ext i; simp [since]
theorem since_last {n : ℕ} : (since n : Finset (Fin n)) = ∅ := by ext i; simp [since]
theorem upto_zero {n : ℕ} : (upto 0 : Finset (Fin n)) = ∅ := by ext i; simp [upto]
theorem upto_last {n : ℕ} : (upto n : Finset (Fin n)) = Finset.univ := by ext i; simp [upto]
theorem since_step {n : ℕ} (k : Fin n) : (since k.val : Finset (Fin n)) = insert k (since (k.val + 1)) := by
  ext i; simp only [since, Finset.mem_filter, Finset.mem_univ, true_and, Finset.mem_insert, Fin.ext_iff]; omega
theorem upto_step {n : ℕ} (k : Fin n) : (upto (k.val + 1) : Finset (Fin n)) = insert k (upto k.val) := by
  ext i; simp only [upto, Finset.mem_filter, Finset.mem_univ, true_and, Finset.mem_insert, Fin.ext_iff]; omega
theorem not_mem_since {n : ℕ} (k : Fin n) : k ∉ (since (k.val + 1) : Finset (Fin n)) := by simp [since]
theorem not_mem_upto {n : ℕ} (k : Fin n) : k ∉ (upto k.val : Finset (Fin n)) := by simp [upto]

omit [FloatOps F] in
/-- The resources from the `k`-th on: the `k`-th and those after it. -/
theorem bigSep_since {n : ℕ} (k : Fin n) (Φ : Fin n → sProp 𝕄) :
    bigSep (since k.val) Φ = iprop(Φ k ∗ bigSep (since (k.val + 1)) Φ) := by
  rw [since_step, bigSep_insert (not_mem_since k)]; rfl
omit [FloatOps F] in
/-- The resources up to the `k`-th: the `k`-th and those before it. -/
theorem bigSep_upto {n : ℕ} (k : Fin n) (Φ : Fin n → sProp 𝕄) :
    bigSep (upto (k.val + 1)) Φ = iprop(Φ k ∗ bigSep (upto k.val) Φ) := by
  rw [upto_step, bigSep_insert (not_mem_upto k)]; rfl

/-! ## Memrefs -/

/-- The argument, the result, the chunk buffer, the local row, the gathering buffer. -/
abbrev xM : Memref sig .tc .hbm S1536x768 .f32 := Memref.whole main_arg0
abbrev oM : Memref sig .tc .hbm S1x768 .f32 := Memref.whole main_v1
abbrev slabsM : Memref sig .tc .vmem S8x192x768 .f32 := Memref.whole cc0_scratch0
abbrev localM : Memref sig .tc .vmem S1x768 .f32 := Memref.whole cc0_scratch1
abbrev gatherM : Memref sig .tc .vmem S8x768 .f32 := Memref.whole cc0_scratch2

theorem chunk_inb (k : Fin 8) : ∀ a, (![192 * k.val, 0] : Fin 2 → Nat) a + S192x768.size a ≤ S1536x768.size a := by revert k; decide
theorem slab_inb (k : Fin 8) : ∀ a, (![k.val, 0, 0] : Fin 3 → Nat) a + S1x192x768.size a ≤ S8x192x768.size a := by revert k; decide

/-- Rows `192 k` to `192 k + 191` of the argument. -/
abbrev chunkR (k : Fin 8) : Rect S1536x768 := Rect.unit (s := S1536x768) ![192 * k.val, 0] S192x768.size (chunk_inb k)
/-- The `k`-th slab of the chunk buffer. -/
abbrev slabR (k : Fin 8) : Rect S8x192x768 := Rect.unit (s := S8x192x768) ![k.val, 0, 0] S1x192x768.size (slab_inb k)
/-- Row `i` of the gathering buffer. -/
abbrev rowR (i : Dev nD) : Rect S8x768 := Rect.unit (s := S8x768) (k0_off1 i) S1x768.size (k0_off1_inb i)

abbrev chunkM (k : Fin 8) : Memref sig .tc .hbm S192x768 .f32 := xM.slice (chunkR k) (fun _ => rfl)
abbrev slabM (k : Fin 8) : Memref sig .tc .vmem S192x768 .f32 := (slabsM.slice (slabR k) (fun _ => rfl)).squeeze S192x768 squeezes_S1x192x768_S192x768
abbrev rowM (i : Dev nD) : Memref sig .tc .vmem S1x768 .f32 := gatherM.slice (rowR i) (fun _ => rfl)

/-! ## The semaphores and their cells -/

/-- The barrier semaphore, and the DMA semaphores of the chunk copies, of the rows sent and of the rows received. -/
abbrev barS : Sem sig := (SemArray.scalar (sig.barrier 0 rfl) : Sems sig S_).sem
abbrev loadS (k : Fin 8) : DmaSem sig := (⟨k.val, by omega⟩ : Fin 24)
abbrev sendS (k : Fin 7) : DmaSem sig := (⟨9 + k.val, by omega⟩ : Fin 24)
abbrev recvS (k : Fin 7) : DmaSem sig := (⟨17 + k.val, by omega⟩ : Fin 24)

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- A device's cells in the exchange: its barrier, its seven send cells, its seven receive cells. -/
abbrev CellIx : Type := Unit ⊕ (Fin 7 ⊕ Fin 7)
def csem : CellIx → SemLoc sig
  | .inl _ => .reg barS
  | .inr (.inl k) => .dma (sendS k)
  | .inr (.inr k) => .dma (recvS k)
abbrev kcell (p : Dev nD × CellIx) : GSem nD τ sig := ((p.1 : Thread nD τ), csem p.2)

/-- Which of a device's cells a semaphore is, if any. -/
def role : SemLoc sig → Option CellIx
  | .reg _ => some (.inl ())
  | .dma s => if h : 9 ≤ s.val ∧ s.val < 16 then some (.inr (.inl ⟨s.val - 9, by omega⟩))
      else if h : 17 ≤ s.val ∧ s.val < 24 then some (.inr (.inr ⟨s.val - 17, by omega⟩)) else none

theorem role_bar : role (.reg barS) = some (.inl ()) := rfl
theorem role_send (k : Fin 7) : role (.dma (sendS k)) = some (.inr (.inl k)) := by revert k; decide
theorem role_recv (k : Fin 7) : role (.dma (recvS k)) = some (.inr (.inr k)) := by revert k; decide
theorem role_csem (j : CellIx) : role (csem j) = some j := by
  rcases j with _ | k | k
  · rfl
  · exact role_send k
  · exact role_recv k
theorem csem_inj : Function.Injective csem := fun i j h => Option.some.inj ((role_csem i).symm.trans ((congrArg role h).trans (role_csem j)))

/-- The credit of one row's transfer. -/
abbrev N : ℕ := (localM).view.dmaCredit
theorem N_pos : 0 < N := View.dmaCredit_pos _ (by decide)
theorem row_credit (i : Dev nD) : (rowM i).view.dmaCredit = N := rfl

/-! ## Contents -/

/-- Device `c`'s block of the argument. -/
abbrev xin (c : Dev nD) : (main_arg0 : Ref sig .tc).ty.Contents (Elt F) := m ((c : Thread nD τ).loc main_arg0)

theorem chunk_lt (i : S8x192x768.Idx) : 192 * (i 0).val + (i 1).val < 1536 := by
  have h0 : (i 0).val < 8 := (i 0).isLt
  have h1 : (i 1).val < 192 := (i 1).isLt
  omega

/-- The chunk buffer once the eight copies have landed: slab `k` is chunk `k`. -/
def slabs (c : Dev nD) : (cc0_scratch0 : Ref sig .tc).ty.Contents (Elt F) := fun i : S8x192x768.Idx =>
  xin m c (ValueIdx.ix2 (⟨192 * (i 0).val + (i 1).val, chunk_lt i⟩ : Fin 1536) ((i 2 : Fin 768)))

/-- What the kernel loads of the `k`-th slab. -/
def slabVal (c : Dev nD) (k : Fin 8) : Vec F S1x192x768 .f32 := (slabsM).view.readAt (Elt F) (slabR k).toLoadRect (slabs m c)

/-- Device `c`'s part: the maximum of its block's rows. -/
def part (c : Dev nD) : FVec F S1x768 .f32 :=
  k0_pay4 (k0_pay3 (k0_pay2 (slabVal m c 0) (slabVal m c 1) (slabVal m c 2)) (slabVal m c 3) (slabVal m c 4) (slabVal m c 5)) (slabVal m c 6) (slabVal m c 7)

/-- The gathering buffer once the eight rows are in: row `i` is device `i`'s part. -/
def rows : (cc0_scratch2 : Ref sig .tc).ty.Contents (Elt F) := fun i : S8x768.Idx => part m (i 0) (ValueIdx.ix2 (0 : Fin 1) (i 1 : Fin 768))

/-- The kernel's result, the same on every device. -/
def result : FVec F S1x768 .f32 := k0_pay1 (rows m)

/-! ## Points-to assertions -/

def chunkPts (c : Dev nD) (k : Fin 8) : sProp 𝕄 := (chunkM k).view.loc (c : Thread nD τ) ↦[(chunkM k).view.set]{fullShare} xin m c
def slabPts (c : Dev nD) (k : Fin 8) (f : (cc0_scratch0 : Ref sig .tc).ty.Contents (Elt F)) : sProp 𝕄 :=
  (slabM k).view.loc (c : Thread nD τ) ↦[(slabM k).view.set]{fullShare} f
/-- Row `i` of device `d`'s gathering buffer, holding `f` there. -/
def rowPts (d i : Dev nD) (f : (cc0_scratch2 : Ref sig .tc).ty.Contents (Elt F)) : sProp 𝕄 :=
  (rowM i).view.loc (d : Thread nD τ) ↦[(rowM i).view.set]{fullShare} f
/-- Device `c`'s local row, holding its part, at the `i`-th of eight shares. -/
def localPts (c : Dev nD) (i : Fin 8) : sProp 𝕄 :=
  (localM).view.loc (c : Thread nD τ) ↦[(localM).view.set]{ShareLeaves.leaf 3 fullShare i} part m c

omit [FloatOps F] in
instance rowPts_storable (d i : Dev nD) (f) : BI.Storable (upEmb : UEmb _ 𝕄) (rowPts (F := F) d i f) := by unfold rowPts; infer_instance
instance localPts_storable (c : Dev nD) (i : Fin 8) : BI.Storable (upEmb : UEmb _ 𝕄) (localPts (F := F) m c i) := by unfold localPts; infer_instance

/-! ## The schedule -/

/-- What the signal of the device `k + 1` places before `c` hands `c`: row `c` of the signaller's gathering buffer. -/
def barPay (c : Dev nD) (k : Fin 7) : sProp 𝕄 := iprop(∃ f, rowPts (bk c k) c f)
/-- What the end of `c`'s `k`-th sending hands back: the share of the local row it read. -/
def sendPay (c : Dev nD) (k : Fin 7) : sProp 𝕄 := localPts m c k.castSucc
/-- What the `k`-th arrival hands `c`: the row of the device `k + 1` places before, holding that device's part. -/
def recvPay (c : Dev nD) (k : Fin 7) : sProp 𝕄 := rowPts c (bk c k) (rows m)

def payOf (c : Dev nD) (d : Fin 7) : Option CellIx → sProp 𝕄
  | some (.inl _) => barPay c d
  | some (.inr (.inl k)) => sendPay m c k
  | some (.inr (.inr k)) => recvPay m c k
  | none => iprop(emp)
def dutiesOf : Option CellIx → Finset (Fin 7)
  | some (.inl _) => Finset.univ
  | some (.inr _) => {0}
  | none => ∅
def amountOf' : Option CellIx → ℕ
  | some (.inl _) => 1
  | _ => N

/-- One round: a barrier cell has one duty of one unit from each of the seven other devices; a send or receive cell has one
    duty of a row's credit. -/
def sched : Rounds.Schedule (GSem nD τ sig) (Fin 7) 𝕄 where
  duties g r := if r = 0 ∧ g.1.2 = .tc then dutiesOf (role g.2) else ∅
  unitless _ := False
  amount g _ _ := amountOf' (role g.2)
  payload g _ d := payOf m g.1.1 d (role g.2)
  amount_pos g _ _ _ := by
    rcases role g.2 with _ | _ | _
    · exact N_pos
    · exact Nat.one_pos
    · exact N_pos

instance sched_storable (g : GSem nD τ sig) (r : ℕ) (d : Fin 7) : BI.Storable (upEmb : UEmb _ 𝕄) ((sched (F := F) m).payload g r d) := by
  show BI.Storable upEmb (payOf m g.1.1 d (role g.2))
  rcases role g.2 with _ | _ | _ | _
  · show BI.Storable upEmb iprop(emp); infer_instance
  · show BI.Storable upEmb (barPay _ _); unfold barPay; infer_instance
  · show BI.Storable upEmb (sendPay _ _ _); unfold sendPay; infer_instance
  · show BI.Storable upEmb (recvPay _ _ _); unfold recvPay; infer_instance

section Tables
variable (c : Dev nD) (k : Fin 7)

theorem duties_bar : (sched (F := F) m).duties (barCell c) 0 = Finset.univ := by
  dsimp only [sched]; rw [if_pos ⟨rfl, rfl⟩, role_bar]; rfl
theorem duties_send : (sched (F := F) m).duties (sendCell c k) 0 = {0} := by
  dsimp only [sched]; rw [if_pos ⟨rfl, rfl⟩, role_send]; rfl
theorem duties_recv : (sched (F := F) m).duties (recvCell c k) 0 = {0} := by
  dsimp only [sched]; rw [if_pos ⟨rfl, rfl⟩, role_recv]; rfl
theorem duties_later (g : GSem nD τ sig) : ∀ r, 1 ≤ r → (sched (F := F) m).duties g r = ∅ := fun r hr => if_neg fun h => by omega

theorem amount_bar (d : Fin 7) : (sched (F := F) m).amount (barCell c) 0 d = 1 := rfl
theorem amount_send (d : Fin 7) : (sched (F := F) m).amount (sendCell c k) 0 d = N := by
  show amountOf' (role (.dma (sendS k))) = N; rw [role_send]; rfl
theorem amount_recv (d : Fin 7) : (sched (F := F) m).amount (recvCell c k) 0 d = N := by
  show amountOf' (role (.dma (recvS k))) = N; rw [role_recv]; rfl

theorem payload_bar (d : Fin 7) : (sched (F := F) m).payload (barCell c) 0 d = barPay c d := rfl
theorem payload_send (d : Fin 7) : (sched (F := F) m).payload (sendCell c k) 0 d = sendPay m c k := by
  show payOf m c d (role (.dma (sendS k))) = _; rw [role_send]; rfl
theorem payload_recv (d : Fin 7) : (sched (F := F) m).payload (recvCell c k) 0 d = recvPay m c k := by
  show payOf m c d (role (.dma (recvS k))) = _; rw [role_recv]; rfl

theorem expect_bar : (sched (F := F) m).expect (barCell c) 0 = 7 := by
  unfold Schedule.expect Schedule.amountOf
  rw [duties_bar, Finset.sum_congr rfl fun d _ => amount_bar m c d]; rfl
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

/-- All a barrier cell's round delivers: a row from each of the seven others. -/
theorem round_bar : bigSep ((sched (F := F) m).duties (barCell c) 0 \ ∅) (fun d => (sched (F := F) m).payload (barCell c) 0 d)
    = bigSep Finset.univ fun d => barPay c d := by
  rw [Finset.sdiff_empty, duties_bar]; rfl
/-- All a send cell's round delivers: the share back. -/
theorem round_send : bigSep ((sched (F := F) m).duties (sendCell c k) 0 \ ∅) (fun d => (sched (F := F) m).payload (sendCell c k) 0 d) = sendPay m c k := by
  rw [Finset.sdiff_empty, duties_send, bigSep_singleton, payload_send]
/-- All a receive cell's round delivers: the row that came. -/
theorem round_recv : bigSep ((sched (F := F) m).duties (recvCell c k) 0 \ ∅) (fun d => (sched (F := F) m).payload (recvCell c k) 0 d) = recvPay m c k := by
  rw [Finset.sdiff_empty, duties_recv, bigSep_singleton, payload_recv]

end Tables

/-! ## What a device owes, and in which order it may wait -/

/-- The rows a device still has to send, from the `n`-th on. -/
def oweRows (c : Dev nD) (n : ℕ) : CellTallies nD τ sig Unit := ∑ k ∈ since n, tallyAt (recvCell (fw c k) k) () N
/-- The signals it still has to give, from the `n`-th on. -/
def oweSignals (c : Dev nD) (n : ℕ) : CellTallies nD τ sig Unit := ∑ k ∈ since n, tallyAt (barCell (fw c k)) () 1

theorem oweRows_step (c : Dev nD) (k : Fin 7) : oweRows c k.val = oweRows c (k.val + 1) + tallyAt (recvCell (fw c k) k) () N := by
  unfold oweRows; rw [since_step, Finset.sum_insert (not_mem_since k), add_comm]
theorem oweSignals_step (c : Dev nD) (k : Fin 7) : oweSignals c k.val = oweSignals c (k.val + 1) + tallyAt (barCell (fw c k)) () 1 := by
  unfold oweSignals; rw [since_step, Finset.sum_insert (not_mem_since k), add_comm]
theorem oweRows_last (c : Dev nD) : oweRows c 7 = 0 := by unfold oweRows; rw [since_last, Finset.sum_empty]
theorem oweSignals_last (c : Dev nD) : oweSignals c 7 = 0 := by unfold oweSignals; rw [since_last, Finset.sum_empty]

/-- At launch: all seven rows and all seven signals. -/
def owed (c : Dev nD) : CellTallies nD τ sig Unit := oweRows c 0 + oweSignals c 0

def L (g : GSem nD τ sig) : Finset Unit := if g.1.2 = .tc then {()} else ∅
def levelOf : Option CellIx → ℕ
  | some (.inl _) => 1
  | some (.inr (.inr _)) => 2
  | _ => 0
/-- Receive cells above barrier cells, those above all the others. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 7) : lv (recvCell c k) () = 2 := by show levelOf (role (.dma (recvS k))) = 2; rw [role_recv]; rfl
theorem lv_bar (c : Dev nD) : lv (barCell c) () = 1 := rfl

/-- A cell a device owes a row to is a receive cell. -/
theorem oweRows_pos {c : Dev nD} {n : ℕ} {g : GSem nD τ sig} {u : Unit} (h : 0 < oweRows c n g u) : ∃ k, g = recvCell (fw c k) k := by
  by_contra hn
  rw [not_exists] at hn
  unfold oweRows at h
  rw [Finset.sum_apply, Finsupp.finset_sum_apply, Finset.sum_eq_zero fun k _ => by rw [tallyAt_apply, if_neg fun h' => hn k h'.1]] at h
  exact Nat.lt_irrefl 0 h
/-- A cell a device owes a signal to is a barrier cell. -/
theorem oweSignals_pos {c : Dev nD} {n : ℕ} {g : GSem nD τ sig} {u : Unit} (h : 0 < oweSignals c n g u) : ∃ k, g = barCell (fw c k) := by
  by_contra hn
  rw [not_exists] at hn
  unfold oweSignals at h
  rw [Finset.sum_apply, Finsupp.finset_sum_apply, Finset.sum_eq_zero fun k _ => by rw [tallyAt_apply, if_neg fun h' => hn k h'.1]] at h
  exact Nat.lt_irrefl 0 h
theorem owed_pos {c : Dev nD} {g : GSem nD τ sig} {u : Unit} (h : 0 < owed c g u) : (∃ k, g = recvCell (fw c k) k) ∨ ∃ k, g = barCell (fw c k) := by
  unfold owed at h
  rw [Pi.add_apply, Finsupp.add_apply] at h
  by_cases h0 : 0 < oweRows c 0 g u
  · exact .inl (oweRows_pos h0)
  · exact .inr (oweSignals_pos (n := 0) (u := u) (by rw [Nat.eq_zero_of_not_pos h0, Nat.zero_add] at h; exact h))

/-- Owing rows only, a device may wait on any of its cells that is no receive cell. -/
theorem mayWait_rows (c : Dev nD) (sm : SemLoc sig) (hsm : levelOf (role sm) ≤ 1) (n : ℕ) :
    (levAts L lv : sProp 𝕄) ⊢ MayWait (c : Thread nD τ) sm () (oweRows c n) :=
  MayOwe.of_cut (L := L) (lev := lv) 1 (fun p hp => by rw [Finset.mem_singleton.mp hp, L_tc]; exact Finset.mem_singleton_self _)
    (fun g u hg => by obtain ⟨k, rfl⟩ := oweRows_pos hg; rw [L_tc]; exact Finset.mem_singleton_self _)
    (fun p hp => by rw [Finset.mem_singleton.mp hp]; exact hsm)
    (fun g u hg => by obtain ⟨k, rfl⟩ := oweRows_pos hg; rw [lv_recv]; decide)

end Cert.MaxRun

end
-- ==== Proof.Contents.lean ====
/-
  The exchange's buffers cut into slabs, chunks and rows, and what a finished copy leaves in each.
-/
module

public import proofs.«01_k».proof.Proof.Schedule

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces of a buffer are apart and make it up -/

/-- The elements of slab `k`, of chunk `k`, of row `i`. -/
abbrev slabSet (k : Fin 8) : Finset S8x192x768.Idx := (slabM k).view.set
abbrev chunkSet (k : Fin 8) : Finset S1536x768.Idx := (chunkM k).view.set
abbrev rowSet (i : Dev nD) : Finset S8x768.Idx := (rowM i).view.set

theorem set_slab (k : Fin 8) : slabSet k = (slabR k).set :=
  (View.set_reshape _ _).trans (View.set_slice_whole cc0_scratch0 (slabR k))
theorem set_chunk (k : Fin 8) : chunkSet k = (chunkR k).set := View.set_slice_whole main_arg0 (chunkR k)
theorem set_row (i : Dev nD) : rowSet i = (rowR i).set := View.set_slice_whole cc0_scratch2 (rowR i)

/-- An element is in slab `k` when its first coordinate is `k`; -/
theorem mem_slab (k : Fin 8) (i : S8x192x768.Idx) : i ∈ (slabR k).set ↔ (i 0).val = k.val := by
  rw [Rect.mem_set_unit]
  constructor
  · intro h
    have h0 := h 0
    change k.val ≤ (i 0).val ∧ (i 0).val < k.val + 1 at h0
    omega
  · intro h a
    fin_cases a
    · change k.val ≤ (i 0).val ∧ (i 0).val < k.val + 1; omega
    · have h1 : (i 1).val < 192 := (i 1).isLt
      change 0 ≤ (i 1).val ∧ (i 1).val < 0 + 192; omega
    · have h2 : (i 2).val < 768 := (i 2).isLt
      change 0 ≤ (i 2).val ∧ (i 2).val < 0 + 768; omega
/-- in chunk `k` when its first coordinate divided by 192 is `k`; -/
theorem mem_chunk (k : Fin 8) (i : S1536x768.Idx) : i ∈ (chunkR k).set ↔ (i 0).val / 192 = k.val := by
  rw [Rect.mem_set_unit]
  constructor
  · intro h
    have h0 := h 0
    change 192 * k.val ≤ (i 0).val ∧ (i 0).val < 192 * k.val + 192 at h0
    omega
  · intro h a
    fin_cases a
    · change 192 * k.val ≤ (i 0).val ∧ (i 0).val < 192 * k.val + 192; omega
    · have h1 : (i 1).val < 768 := (i 1).isLt
      change 0 ≤ (i 1).val ∧ (i 1).val < 0 + 768; omega
/-- in row `d` when its first coordinate is `d`. -/
theorem mem_row (d : Dev nD) (i : S8x768.Idx) : i ∈ (rowR d).set ↔ (i 0).val = d.val := by
  rw [Rect.mem_set_unit]
  simp only [k0_off1_eq]
  constructor
  · intro h
    have h0 := h 0
    change d.val ≤ (i 0).val ∧ (i 0).val < d.val + 1 at h0
    omega
  · intro h a
    fin_cases a
    · change d.val ≤ (i 0).val ∧ (i 0).val < d.val + 1; omega
    · have h1 : (i 1).val < 768 := (i 1).isLt
      change 0 ≤ (i 1).val ∧ (i 1).val < 0 + 768; omega

theorem slabs_disj : ∀ b b', b ≠ b' → Disjoint (slabSet b) (slabSet b') := fun b b' h => by
  rw [set_slab, set_slab]
  exact Finset.disjoint_left.mpr fun i hi hi' => h (Fin.ext (((mem_slab b i).mp hi).symm.trans ((mem_slab b' i).mp hi')))
theorem slabs_cover : Finset.univ.biUnion (fun b => slabSet b) = Finset.univ := by
  ext i
  simp only [Finset.mem_biUnion, Finset.mem_univ, true_and, iff_true]
  exact ⟨(⟨(i 0).val, (i 0).isLt⟩ : Fin 8), by rw [set_slab]; exact (mem_slab _ i).mpr rfl⟩
theorem chunks_disj : ∀ b b', b ≠ b' → Disjoint (chunkSet b) (chunkSet b') := fun b b' h => by
  rw [set_chunk, set_chunk]
  exact Finset.disjoint_left.mpr fun i hi hi' => h (Fin.ext (((mem_chunk b i).mp hi).symm.trans ((mem_chunk b' i).mp hi')))
theorem chunks_cover : Finset.univ.biUnion (fun b => chunkSet b) = Finset.univ := by
  ext i
  simp only [Finset.mem_biUnion, Finset.mem_univ, true_and, iff_true]
  have h0 : (i 0).val < 1536 := (i 0).isLt
  exact ⟨(⟨(i 0).val / 192, by omega⟩ : Fin 8), by rw [set_chunk]; exact (mem_chunk _ i).mpr rfl⟩
theorem rows_disj : ∀ b b', b ≠ b' → Disjoint (rowSet b) (rowSet b') := fun b b' h => by
  rw [set_row, set_row]
  exact Finset.disjoint_left.mpr fun i hi hi' => h (Fin.ext (((mem_row b i).mp hi).symm.trans ((mem_row b' i).mp hi')))
theorem rows_cover : Finset.univ.biUnion (fun b => rowSet b) = Finset.univ := by
  ext i
  simp only [Finset.mem_biUnion, Finset.mem_univ, true_and, iff_true]
  exact ⟨(⟨(i 0).val, (i 0).isLt⟩ : Dev nD), by rw [set_row]; exact (mem_row _ i).mpr rfl⟩

omit [FloatOps F] in
/-- The chunk buffer is its eight slabs; -/
theorem slabs_split (c : Dev nD) (f : (cc0_scratch0 : Ref sig .tc).ty.Contents (Elt F)) :
    (((c : Thread nD τ).loc cc0_scratch0) ↦{fullShare} f : sProp 𝕄) = bigSep Finset.univ fun k => slabPts c k f :=
  Ring.pointsTo_blocks (ℓ := (c : Thread nD τ).loc cc0_scratch0) (I := slabSet) slabs_disj slabs_cover f
omit [FloatOps F] in
/-- the argument is its eight chunks; -/
theorem chunks_split (c : Dev nD) :
    (((c : Thread nD τ).loc main_arg0) ↦{fullShare} xin m c : sProp 𝕄) = bigSep Finset.univ fun k => chunkPts m c k :=
  Ring.pointsTo_blocks (ℓ := (c : Thread nD τ).loc main_arg0) (I := chunkSet) chunks_disj chunks_cover (xin m c)
omit [FloatOps F] in
/-- the gathering buffer is its eight rows; -/
theorem rows_split (c : Dev nD) (f : (cc0_scratch2 : Ref sig .tc).ty.Contents (Elt F)) :
    (((c : Thread nD τ).loc cc0_scratch2) ↦{fullShare} f : sProp 𝕄) = bigSep Finset.univ fun i => rowPts c i f :=
  Ring.pointsTo_blocks (ℓ := (c : Thread nD τ).loc cc0_scratch2) (I := rowSet) rows_disj rows_cover f
omit [FloatOps F] in
/-- a local row is its eight shares; -/
theorem row_shares (c : Dev nD) (f : (cc0_scratch1 : Ref sig .tc).ty.Contents (Elt F)) :
    (((c : Thread nD τ).loc cc0_scratch1) ↦{fullShare} f : sProp 𝕄)
      = bigSep Finset.univ fun i : Fin 8 => (localM).view.loc (c : Thread nD τ) ↦[(localM).view.set]{ShareLeaves.leaf 3 fullShare i} f := by
  rw [View.set_whole]
  exact ShareLeaves.pointsTo_leaves (ℓ := (c : Thread nD τ).loc cc0_scratch1) Finset.univ f 3 fullShare
/-- the local row holding the part. -/
theorem local_split (c : Dev nD) :
    (((c : Thread nD τ).loc cc0_scratch1) ↦{fullShare} (part m c : (cc0_scratch1 : Ref sig .tc).ty.Contents (Elt F)) : sProp 𝕄)
      = bigSep Finset.univ fun i => localPts m c i := row_shares c (part m c)

/-! ## What a copy leaves -/

omit [FloatOps F] in
/-- Writing through a view what the view reads of `g` leaves `g` on the view's elements. -/
theorem write_on_set {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ _), ← h, View.read_apply, cast_cast, cast_eq]

omit [FloatOps F] in
/-- Chunk `k` of the argument is what slab `k` of the filled chunk buffer reads. -/
theorem slab_read (c : Dev nD) (k : Fin 8) : (slabM k).view.read (Elt F) (slabs m c) = (chunkM k).view.read (Elt F) (xin m c) := by
  funext j
  rw [View.read_apply, View.read_apply]
  refine congrArg (cast _) ?_
  have hj : (slabM k).view.emb j = ValueIdx.ix3 k (j 0 : Fin 192) (j 1 : Fin 768) := by
    have he : Shape.reshapeEquiv (s := S1x192x768) (s' := S192x768) (by decide) j = ValueIdx.ix3 (⟨0, Nat.one_pos⟩ : Fin 1) (j 0 : Fin 192) (j 1 : Fin 768) :=
      (congrArg _ (ValueIdx.eq_ix2 j)).trans (ValueIdx.reshapeEquiv_ix2_1ab _ (j 0 : Fin 192) (j 1 : Fin 768))
    refine (congrArg (slabR k).emb he).trans ?_
    funext a
    refine Fin.ext ?_
    refine (Rect.emb_apply (slabR k) _ a).trans ?_
    fin_cases a
    · show k.val + 1 * 0 = k.val; omega
    · show 0 + 1 * (j 0).val = (j 0).val; omega
    · show 0 + 1 * (j 1).val = (j 1).val; omega
  rw [hj]
  show xin m c _ = xin m c ((chunkR k).emb j)
  refine congrArg (xin m c) (funext fun a => Fin.ext ?_)
  rw [Rect.emb_apply]
  fin_cases a
  · show 192 * k.val + (j 0).val = 192 * k.val + 1 * (j 0).val; omega
  · show (j 1).val = 0 + 1 * (j 1).val; omega

/-- Row `i` of the full gathering buffer reads device `i`'s part. -/
theorem row_read (i : Dev nD) : (rowM i).view.read (Elt F) (rows m) = part m i := by
  funext j
  rw [View.read_apply]
  show rows m ((rowR i).emb j) = part m i j
  have hj : ((rowR i).emb j : S8x768.Idx) = ValueIdx.ix2 (i : Fin 8) (j 1 : Fin 768) := by
    funext a
    refine Fin.ext ?_
    rw [Rect.emb_apply]
    show k0_off1 i a + 1 * (j a).val = _
    rw [k0_off1_eq]
    fin_cases a
    · have h0 : (j 0).val < 1 := (j 0).isLt
      show i.val + 1 * (j 0).val = i.val; omega
    · show 0 + 1 * (j 1).val = (j 1).val; omega
  rw [hj]
  show part m i (ValueIdx.ix2 (0 : Fin 1) (j 1 : Fin 768)) = part m i j
  refine congrArg (part m i) (funext fun a => Fin.ext ?_)
  fin_cases a
  · have h0 : (j 0).val < 1 := (j 0).isLt
    show 0 = (j 0).val; omega
  · rfl

omit [FloatOps F] in
/-- A slab holding a chunk's copy holds what the filled chunk buffer holds there. -/
theorem slab_landed (c : Dev nD) (k : Fin 8) (f : (cc0_scratch0 : Ref sig .tc).ty.Contents (Elt F)) :
    slabPts c k ((slabM k).view.write (Elt F) f ((chunkM k).view.read (Elt F) (xin m c)) Finset.univ) = (slabPts c k (slabs m c) : sProp 𝕄) :=
  pointsTo_congr (write_on_set (slabM k).view f (slabs m c) _ (slab_read m c k))

/-- A row holding a device's part holds what the full gathering buffer holds there. -/
theorem row_landed (d i : Dev nD) (f : (cc0_scratch2 : Ref sig .tc).ty.Contents (Elt F)) :
    rowPts d i ((rowM i).view.write (Elt F) f (part m i) Finset.univ) = (rowPts d i (rows m) : sProp 𝕄) :=
  pointsTo_congr (write_on_set (rowM i).view f (rows m) _ (row_read m i))

end Cert.MaxRun

end
-- ==== Proof.Steps.lean ====
/-
  The stages of the kernel's body, one step of each.

  Each stage repeats one operation over the seven other devices or over the eight chunks. A stage's resources are a
  list: the entries from the `n`-th on still wait for their operation, those before have had it. One lemma per stage
  moves one entry over.
-/
module

public import proofs.«01_k».proof.Proof.Contents

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What it takes for device `c` to run `p` so that `Q` holds at the end. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows throughout -/

/-- Every cell of the exchange is governed by the schedule and has reached its round; the levels are those set. -/
def held (K : Dev nD × CellIx → ℕ) : sProp 𝕄 :=
  iprop(bigSep Finset.univ (fun p : Dev nD × CellIx => cellInv ER (sched m) (K p) (kcell p))
    ∗ bigSep Finset.univ (fun p : Dev nD × CellIx => reached ER (kcell p) 0) ∗ levAts L lv)

instance held_persistent (K : Dev nD × CellIx → ℕ) : BI.Persistent (held (F := F) m K) := by unfold held; infer_instance

variable (K : Dev nD × CellIx → ℕ)

theorem held_inv (p : Dev nD × CellIx) : held m K ⊢ cellInv ER (sched m) (K p) (kcell p) := by
  have h : (bigSep Finset.univ (fun p : Dev nD × CellIx => cellInv ER (sched m) (K p) (kcell p)) : sProp 𝕄)
      ⊢ cellInv ER (sched m) (K p) (kcell p) := bigSep_elim (Finset.mem_univ p)
  unfold held
  iintro ⟨H, -, -⟩
  iapply h $$ H
theorem held_reached (p : Dev nD × CellIx) : held m K ⊢ reached ER (kcell p) 0 := by
  have h : (bigSep Finset.univ (fun p : Dev nD × CellIx => reached ER (kcell p) 0) : sProp 𝕄) ⊢ reached ER (kcell p) 0 :=
    bigSep_elim (Finset.mem_univ p)
  unfold held
  iintro ⟨-, H, -⟩
  iapply h $$ H
theorem held_lev : held m K ⊢ levAts L lv := by
  unfold held
  iintro ⟨-, -, H⟩
  iexact H

/-- Device `c` owes `O`, whatever it has waited for. -/
def owing (c : Dev nD) (O : CellTallies nD τ sig Unit) : sProp 𝕄 := iprop(∃ W, owes (c : Thread nD τ) O W)

/-! ## Signalling the others -/

/-- For the signal to the device `k + 1` places on: the right to give it, and that device's row of the gathering buffer. -/
def sigOne (c : Dev nD) (k : Fin 7) : sProp 𝕄 := iprop(dutyTok ER (barCell (fw c k)) 0 k ∗ ∃ f, rowPts c (fw c k) f)
/-- `n` signals given. -/
def signalling (c : Dev nD) (n : ℕ) : sProp 𝕄 := iprop(owing c (oweRows c 0 + oweSignals c n) ∗ bigSep (since n) (sigOne c))

/-- The `k`-th signal. -/
theorem signal_step (c n : Dev nD) (k : Fin 7) (a b : ℕ) (ha : a = k.val) (hb : b = k.val + 1) (hn : n = fw c k)
    {α : Type} {Q : α → sProp 𝕄} {p : PUnit → Prog (TpuEff nD τ sig (Elt F) Λ₀ .tc) α} :
    held m K
      ⊢ iprop(signalling c a -∗ (signalling c b -∗ runs c (p ⟨⟩) Q) -∗ runs c (.op (.semSignal (Dev.tc n : Thread nD τ) barS (1#32 : BitVec 32).toInt) p) Q) := by
  subst ha hb hn
  unfold signalling owing
  rw [bigSep_since]
  unfold sigOne
  iintro #Hh ⟨⟨%W, HO⟩, ⟨Ht, Hr⟩, Hrest⟩ Hk
  iapply (Rounds.wp_signal 𝒱₀ ER (sched m) (c : Thread nD τ) none (dst := (fw c k : Thread nD τ)) (κ := K (fw c k, .inl ()))
      (d := k) (by rw [duties_bar]; exact Finset.mem_univ _) ((amount_bar m (fw c k) k).trans (by decide)) ()
      (O₀ := oweRows c 0 + oweSignals c k.val) (oweRows c 0 + oweSignals c (k.val + 1)) (by rw [oweSignals_step, ← add_assoc]; rfl)) $$ [HO Ht Hr]
  · isplitr; · iapply (held_inv m K (fw c k, .inl ())); iexact Hh
    isplitl [HO]; · iexact HO
    isplitl [Ht]; · iexact Ht
    isplitl [Hr]
    · rw [payload_bar]; unfold barPay; rw [bk_fw]; iexact Hr
    iapply (held_reached m K (fw c k, .inl ())); iexact Hh
  iintro HO
  iapply Hk
  isplitl [HO]
  · iexists W; iexact HO
  iexact Hrest

/-! ## Copying the chunks in -/

/-- The credit of one chunk's copy. -/
abbrev NL : ℕ := (slabM 0).view.dmaCredit
theorem NL_pos : 0 < NL := View.dmaCredit_pos _ (by decide)

/-- For a copy still to start: the chunk, the slab, and the counter of its semaphore. -/
def copyOne (c : Dev nD) (k : Fin 8) : sProp 𝕄 :=
  iprop(chunkPts m c k ∗ (∃ f, slabPts c k f) ∗ semVal ((c : Thread nD τ), .dma (loadS k)) 0)
/-- A copy under way, which will leave the chunk in the slab. -/
def copyFlight (c : Dev nD) (k : Fin 8) : sProp 𝕄 :=
  Transfers.Flight EC (c : Thread nD τ) (.dma (loadS k)) () NL iprop(slabPts c k (slabs m c) ∗ chunkPts m c k)
/-- A copy done. -/
def copyDone (c : Dev nD) (k : Fin 8) : sProp 𝕄 :=
  iprop((slabPts c k (slabs m c) ∗ chunkPts m c k) ∗ semVal ((c : Thread nD τ), .dma (loadS k)) 0)
/-- `n` copies started. -/
def copying (c : Dev nD) (n : ℕ) : sProp 𝕄 := iprop(bigSep (since n) (copyOne m c) ∗ bigSep (upto n) (copyFlight m c))
/-- `n` copies done. -/
def landing (c : Dev nD) (n : ℕ) : sProp 𝕄 :=
  iprop(owing c (oweRows c 0) ∗ bigSep (since n) (copyFlight m c) ∗ bigSep (upto n) (copyDone m c))

/-- The `k`-th copy starts. -/
theorem copy_step (c : Dev nD) (k : Fin 8) (a b : ℕ) (ha : a = k.val) (hb : b = k.val + 1)
    {hsrc : (chunkM k).view.WordExact} {hdst : (slabM k).view.WordExact} {hsem : DmaTarget.Typed (nD := nD) (τ := τ) (p := .tc) .hbm (.dma (loadS k)) (.here (slabM k))}
    {α : Type} {Q : α → sProp 𝕄} {p : PUnit → Prog (TpuEff nD τ sig (Elt F) Λ₀ .tc) α} :
    copying m c a
      ⊢ iprop((copying m c b -∗ runs c (p ⟨⟩) Q)
          -∗ runs c (.op (.enqueueDma (chunkM k) (.here (slabM k)) (.dma (loadS k)) hsrc hdst hsem) p) Q) := by
  subst ha hb
  unfold copying
  rw [bigSep_since, bigSep_upto]
  iintro ⟨⟨H, Hrest⟩, Hdone⟩ Hk
  unfold copyOne
  icases H with ⟨Hx, ⟨%f, Hs⟩, Hv⟩
  iapply (Transfers.wp_dmaLocal EC 𝒱₀ (c : Thread nD τ) none (src := chunkM k) (dst := slabM k) (fs := xin m c) (Sd := (slabM k).view.set) (fd := f) () NL rfl NL_pos (Finset.Subset.refl _)) $$ [Hx Hs Hv]
  · isplitl [Hx]; · unfold chunkPts; iexact Hx
    isplitl [Hs]; · unfold slabPts; iexact Hs
    iexact Hv
  iintro HF
  iapply Hk
  isplitl [Hrest]; · iexact Hrest
  isplitl [HF]
  · unfold copyFlight
    iapply (Transfers.Flight_mono EC (c : Thread nD τ) (D' := iprop(slabPts c k (slabs m c) ∗ chunkPts m c k)) (by
      rw [← slab_landed m c k f]; exact Entails.refl _)) $$ HF
  iexact Hdone

theorem slab_load_sub (k : Fin 8) : (slabsM).view.setOn (slabR k).toLoadRect.set ⊆ (slabM k).view.set := by
  rw [show (slabM k).view.set = (slabR k).set from set_slab k]
  intro i hi
  obtain ⟨a, ha, rfl⟩ := Finset.mem_map.mp hi
  exact ha

theorem load_level (k : Fin 8) : levelOf (role (.dma (loadS k))) ≤ 1 := by revert k; decide

/-- The `k`-th copy is waited for and its slab loaded. -/
theorem land_step (c : Dev nD) (k : Fin 8) (a b : ℕ) (ha : a = k.val) (hb : b = k.val + 1)
    {hsrc : (chunkM k).view.WordExact} {hdst : (slabM k).view.WordExact} {hl}
    {α : Type} {Q : α → sProp 𝕄} {p : Vec F S1x192x768 .f32 → Prog (TpuEff nD τ sig (Elt F) Λ₀ .tc) α} :
    held m K
      ⊢ iprop(landing m c a -∗ (landing m c b -∗ runs c (p (slabVal m c k)) Q)
          -∗ runs c (.op (.waitDma2 (loadS k) (chunkM k) (slabM k) hsrc hdst) (fun _ => .op (.load slabsM (slabR k).toLoadRect hl) p)) Q) := by
  subst ha hb
  unfold landing owing
  rw [bigSep_since, bigSep_upto]
  iintro #Hh ⟨⟨%W, HO⟩, ⟨HF, Hrest⟩, Hdone⟩ Hk
  unfold copyFlight
  iapply (Transfers.wp_waitLocalO EC 𝒱₀ (c : Thread nD τ) none (srcw := chunkM k) (dstw := slabM k) () (N := NL) rfl (O := oweRows c 0) (W := W)) $$ [HF HO]
  · isplitl [HF]; · iexact HF
    isplitl [HO]; · iexact HO
    iapply (mayWait_rows c (.dma (loadS k)) (load_level k) 0)
    iapply (held_lev m K); iexact Hh
  iintro ⟨⟨Hs, Hx⟩, Hv, HO⟩
  unfold slabPts
  iapply (wp_load 𝒱₀ (c : Thread nD τ) none Set.univ (m := slabsM) (slab_load_sub k)) $$ Hs
  iintro Hs
  iapply Hk
  isplitl [HO]; · iexists _; iexact HO
  isplitl [Hrest]; · iexact Hrest
  isplitl [Hs Hx Hv]
  · unfold copyDone slabPts
    isplitl [Hs Hx]
    · isplitl [Hs]; · iexact Hs
      iexact Hx
    iexact Hv
  iexact Hdone

/-! ## Sending the row to the others -/

/-- For the row sent to the device `k + 1` places on: the row of that device's gathering buffer, a share of the local row,
    and the rights to the two duties. -/
def sendOne (c : Dev nD) (k : Fin 7) : sProp 𝕄 :=
  iprop((∃ f, rowPts (fw c k) c f) ∗ localPts m c k.castSucc ∗ dutyTok ER (sendCell c k) 0 0 ∗ dutyTok ER (recvCell (fw c k) k) 0 0)
/-- `n` rows sent. -/
def sending (c : Dev nD) (n : ℕ) : sProp 𝕄 :=
  iprop(owing c (oweRows c n) ∗ bigSep (since n) (sendOne m c) ∗ bigSep (upto n) (fun k => cred (tallyAt (sendCell c k) () N)))

/-- The `k`-th row is sent. -/
theorem send_step (c n : Dev nD) (k : Fin 7) (a b : ℕ) (ha : a = k.val) (hb : b = k.val + 1) (hn : n = fw c k)
    {hsc : (rowM c : Memref sig (Dev.tc n : Thread nD τ).2.kind .vmem S1x768 .f32).view.ref.isScScratch = false}
    {hsrc : (localM).view.WordExact} {hdst : (rowM c).view.WordExact}
    {hsem : DmaTarget.Typed .vmem (.dma (recvS k)) (.remote (Dev.tc n : Thread nD τ) (rowM c) (.dma (sendS k)) hsc)}
    {α : Type} {Q : α → sProp 𝕄} {p : PUnit → Prog (TpuEff nD τ sig (Elt F) Λ₀ .tc) α} :
    held m K
      ⊢ iprop(sending m c a -∗ (sending m c b -∗ runs c (p ⟨⟩) Q)
          -∗ runs c (.op (.enqueueDma localM (.remote (Dev.tc n : Thread nD τ) (rowM c) (.dma (sendS k)) hsc) (.dma (recvS k)) hsrc hdst hsem) p) Q) := by
  subst ha hb hn
  unfold sending owing
  rw [bigSep_since, bigSep_upto]
  iintro #Hh ⟨⟨%W, HO⟩, ⟨H, Hrest⟩, Hdone⟩ Hk
  unfold sendOne
  icases H with ⟨⟨%f, Hr⟩, Hl, HtS, HtR⟩
  iapply (Rounds.wp_send_pointsTo 𝒱₀ ER (sched m) (c : Thread nD τ) none (c' := (fw c k : Thread nD τ))
      (κ₁ := K (c, .inr (.inl k))) (κ₂ := K (fw c k, .inr (.inr k))) (src := localM) (dst := rowM c)
      (q := ShareLeaves.leaf 3 fullShare k.castSucc) (fs := part m c) (fd := f)
      (r₁ := 0) (r₂ := 0) (d₁ := 0) (d₂ := 0)
      (by rw [duties_send]; exact Finset.mem_singleton_self _) (by rw [duties_recv]; exact Finset.mem_singleton_self _)
      () () N rfl (amount_send m c k 0) (amount_recv m (fw c k) k 0) (oweRows c (k.val + 1)) (oweRows_step c k) (W := W)
      (by rw [payload_send]; exact Entails.refl _)
      (by
        rw [payload_recv]; unfold recvPay; rw [bk_fw, ← row_landed m (fw c k) c f]; exact Entails.refl _)) $$ [HO Hr Hl HtS HtR]
  · isplitr; · iapply (held_inv m K (c, .inr (.inl k))); iexact Hh
    isplitr; · iapply (held_inv m K (fw c k, .inr (.inr k))); iexact Hh
    isplitl [Hl]; · unfold localPts; iexact Hl
    isplitl [Hr]; · unfold rowPts; iexact Hr
    isplitl [HO]; · iexact HO
    isplitl [HtS]; · iexact HtS
    isplitr; · iapply (held_reached m K (c, .inr (.inl k))); iexact Hh
    isplitl [HtR]; · iexact HtR
    iapply (held_reached m K (fw c k, .inr (.inr k))); iexact Hh
  iintro ⟨Hc, HO⟩
  iapply Hk
  isplitl [HO]; · iexists W; iexact HO
  isplitl [Hrest]; · iexact Hrest
  isplitl [Hc]; · iexact Hc
  iexact Hdone

/-! ## Waiting for the rows sent and received -/

/-- For the `k`-th two waits: their credit, and the first positions of the two cells. -/
def waitOne (c : Dev nD) (k : Fin 7) : sProp 𝕄 :=
  iprop(cred (tallyAt (sendCell c k) () N) ∗ cred (tallyAt (recvCell c k) () N) ∗ atPos ER (sendCell c k) 0 ∅ 0 ∗ atPos ER (recvCell c k) 0 ∅ 0)
/-- After them: the share of the local row, the row received, and the last positions of the two cells. -/
def waitDone (c : Dev nD) (k : Fin 7) : sProp 𝕄 :=
  iprop(localPts m c k.castSucc ∗ rowPts c (bk c k) (rows m) ∗ atPos ER (sendCell c k) (0 + 1) ∅ 0 ∗ atPos ER (recvCell c k) (0 + 1) ∅ 0)
/-- `n` pairs of waits done. -/
def waiting (c : Dev nD) (n : ℕ) : sProp 𝕄 :=
  iprop(owing c 0 ∗ bigSep (since n) (waitOne c) ∗ bigSep (upto n) (waitDone m c))

/-- The `k`-th row's sending and the `k`-th arrival are waited for. -/
theorem wait_step (c : Dev nD) (k : Fin 7) (a b : ℕ) (ha : a = k.val) (hb : b = k.val + 1)
    {hs₁ hs₂ : (rowM c).view.WordExact} {hl₁ hl₂ : (localM).view.WordExact}
    {α : Type} {Q : α → sProp 𝕄} {p : PUnit → Prog (TpuEff nD τ sig (Elt F) Λ₀ .tc) α} :
    held m K
      ⊢ iprop(waiting m c a -∗ (waiting m c b -∗ runs c (p ⟨⟩) Q)
          -∗ runs c (.op (.waitDma2 (sendS k) (rowM c) localM hs₁ hl₁) (fun _ => .op (.waitDma2 (recvS k) localM (rowM c) hl₂ hs₂) p)) Q) := by
  subst ha hb
  unfold waiting owing
  rw [bigSep_since, bigSep_upto]
  iintro #Hh ⟨⟨%W, HO⟩, ⟨H, Hrest⟩, Hdone⟩ Hk
  unfold waitOne
  icases H with ⟨HcS, HcR, HaS, HaR⟩
  iapply (Rounds.wp_wait_rest_token 𝒱₀ ER (sched m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iapply (held_inv m K (c, .inr (.inl k))); iexact Hh
    isplitl [HcS]; · iexact HcS
    isplitl [HO]; · iexact HO
    isplitr; · rw [MayWait_zero]; iempintro
    iexact HaS
  iintro ⟨HO, HaS, -, Hpay⟩
  ihave Hl := (Entails.of_eq (round_send m c k)) $$ Hpay
  iapply (Rounds.wp_wait_rest_token 𝒱₀ ER (sched m) (c : Thread nD τ) none (κ := K (c, .inr (.inr k)))
      (wpE_waitDma2_eq 𝒱₀ (c : Thread nD τ) none Set.univ) (Set.mem_univ _) () (O := 0) (W := insert (SemLoc.dma (sendS k), ()) W) (R := 0) (m := 0) (T := ∅)
      (by rw [Nat.zero_add, expect_recv])) $$ [HcR HO HaR]
  · isplitr; · iapply (held_inv m K (c, .inr (.inr k))); iexact Hh
    isplitl [HcR]; · rw [row_credit]; iexact HcR
    isplitl [HO]; · iexact HO
    isplitr; · rw [MayWait_zero]; iempintro
    iexact HaR
  iintro ⟨HO, HaR, -, Hpay⟩
  ihave Hr := (Entails.of_eq (round_recv m c k)) $$ Hpay
  unfold sendPay recvPay
  iapply Hk
  isplitl [HO]; · iexists _; iexact HO
  isplitl [Hrest]; · iexact Hrest
  isplitl [Hl Hr HaS HaR]
  · unfold waitDone
    isplitl [Hl]; · iexact Hl
    isplitl [Hr]; · iexact Hr
    isplitl [HaS]; · iexact HaS
    iexact HaR
  iexact Hdone

end Cert.MaxRun

end
-- ==== Proof.Between.lean ====
/-
  From one stage of the kernel's body to the next: what a stage starts from and what it leaves, and the few operations
  that are not part of a repeated stage.
-/
module

public import proofs.«01_k».proof.Proof.Steps

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CellIx → ℕ)

/-! ## The two orders of going round, and the eight shares of a row -/

omit [FloatOps F] in
/-- Seven resources, in either order. -/
theorem bigSep_rev (Φ : Fin 7 → sProp 𝕄) : bigSep Finset.univ Φ = bigSep Finset.univ fun k : Fin 7 => Φ k.rev := bigSep_univ_equiv Fin.revPerm Φ

theorem univ_eight : (Finset.univ : Finset (Fin 8)) = insert (Fin.last 7) (Finset.univ.map ⟨Fin.castSucc, Fin.castSucc_injective 7⟩) := by decide
omit [FloatOps F] in
/-- Eight resources: the last and the first seven. -/
theorem bigSep_eight (Φ : Fin 8 → sProp 𝕄) : bigSep Finset.univ Φ = iprop(Φ (Fin.last 7) ∗ bigSep Finset.univ fun k : Fin 7 => Φ k.castSucc) := by
  rw [univ_eight, bigSep_insert (by decide), bigSep_map]
  rfl

/-! ## Where the stages start and end -/

/-- The signals start from the rights to give them and the gathering buffer, whose own row stays. -/
theorem signalling_begin (c : Dev nD) (f : (cc0_scratch2 : Ref sig .tc).ty.Contents (Elt F)) :
    iprop(owing c (owed c) ∗ bigSep Finset.univ (fun k => dutyTok ER (barCell (fw c k)) 0 k) ∗ (((c : Thread nD τ).loc cc0_scratch2) ↦{fullShare} f))
      ⊢ (iprop(rowPts c c f ∗ signalling c 0) : sProp 𝕄) := by
  have h : (iprop(bigSep Finset.univ (fun k => dutyTok ER (barCell (fw c k)) 0 k) ∗ bigSep Finset.univ (fun k => rowPts c (fw c k) f)) : sProp 𝕄)
      ⊢ bigSep Finset.univ (sigOne c) := by
    rw [← bigSep_sep']
    refine bigSep_mono fun k _ => ?_
    show (_ : sProp 𝕄) ⊢ _
    unfold sigOne
    iintro ⟨Ht, Hr⟩
    isplitl [Ht]; · iexact Ht
    iexists f; iexact Hr
  rw [rows_split, bigSep_devs c]
  unfold signalling owed
  rw [since_zero]
  iintro ⟨HO, Ht, Hown, Hr⟩
  isplitl [Hown]; · iexact Hown
  isplitl [HO]; · iexact HO
  iapply h
  isplitl [Ht]; · iexact Ht
  iexact Hr

omit [FloatOps F] in
/-- The signals given, only rows are owed. -/
theorem signalling_end (c : Dev nD) : (signalling c 7 : sProp 𝕄) ⊢ owing c (oweRows c 0) := by
  unfold signalling
  rw [oweSignals_last, add_zero]
  iintro ⟨H, -⟩
  iexact H

/-- The copies start from the argument, the chunk buffer and the counters of their semaphores. -/
theorem copying_begin (c : Dev nD) (f : (cc0_scratch0 : Ref sig .tc).ty.Contents (Elt F)) :
    iprop((((c : Thread nD τ).loc main_arg0) ↦{fullShare} xin m c) ∗ (((c : Thread nD τ).loc cc0_scratch0) ↦{fullShare} f)
        ∗ bigSep Finset.univ (fun k => semVal ((c : Thread nD τ), .dma (loadS k)) 0))
      ⊢ copying m c 0 := by
  have h : (iprop(bigSep Finset.univ (fun k => chunkPts m c k) ∗ bigSep Finset.univ (fun k => slabPts c k f)
        ∗ bigSep Finset.univ (fun k => semVal ((c : Thread nD τ), .dma (loadS k)) 0)) : sProp 𝕄) ⊢ bigSep Finset.univ (copyOne m c) := by
    rw [← bigSep_sep', ← bigSep_sep']
    refine bigSep_mono fun k _ => ?_
    show (_ : sProp 𝕄) ⊢ _
    unfold copyOne
    iintro ⟨Hx, Hs, Hv⟩
    isplitl [Hx]; · iexact Hx
    isplitl [Hs]; · iexists f; iexact Hs
    iexact Hv
  rw [chunks_split, slabs_split]
  unfold copying
  rw [since_zero, upto_zero, bigSep_empty]
  iintro H
  isplitl [H]; · iapply h $$ H
  iempintro

/-- All copies started, their waits begin. -/
theorem landing_begin (c : Dev nD) : iprop(owing c (oweRows c 0) ∗ copying m c 8) ⊢ landing m c 0 := by
  unfold landing copying
  rw [since_zero, upto_zero, upto_last, bigSep_empty]
  iintro ⟨HO, -, H⟩
  isplitl [HO]; · iexact HO
  isplitl [H]; · iexact H
  iempintro

/-- All copies done: the argument as it was, and the chunk buffer full. -/
theorem landing_end (c : Dev nD) :
    landing m c 8 ⊢ iprop(owing c (oweRows c 0) ∗ (((c : Thread nD τ).loc main_arg0) ↦{fullShare} xin m c)
      ∗ (((c : Thread nD τ).loc cc0_scratch0) ↦{fullShare} slabs m c) ∗ bigSep Finset.univ (fun k => semVal ((c : Thread nD τ), .dma (loadS k)) 0)) := by
  unfold landing
  rw [since_last, upto_last, bigSep_empty, chunks_split, slabs_split]
  unfold copyDone
  rw [bigSep_sep', bigSep_sep']
  iintro ⟨HO, -, ⟨Hs, Hx⟩, Hv⟩
  isplitl [HO]; · iexact HO
  isplitl [Hx]; · iexact Hx
  isplitl [Hs]; · iexact Hs
  iexact Hv

/-- The rows go out once the others' signals have brought this device's rows of their gathering buffers; of the local row's
    eight shares one stays. -/
theorem sending_begin (c : Dev nD) :
    iprop(owing c (oweRows c 0) ∗ bigSep Finset.univ (fun k => barPay c k) ∗ (((c : Thread nD τ).loc cc0_scratch1) ↦{fullShare} (part m c : (cc0_scratch1 : Ref sig .tc).ty.Contents (Elt F)))
        ∗ bigSep Finset.univ (fun k => dutyTok ER (sendCell c k) 0 0) ∗ bigSep Finset.univ (fun k => dutyTok ER (recvCell (fw c k) k) 0 0))
      ⊢ (iprop(localPts m c (Fin.last 7) ∗ sending m c 0) : sProp 𝕄) := by
  have h : (iprop(bigSep Finset.univ (fun k : Fin 7 => iprop(∃ f, rowPts (fw c k) c f)) ∗ bigSep Finset.univ (fun k : Fin 7 => localPts m c k.castSucc)
        ∗ bigSep Finset.univ (fun k => dutyTok ER (sendCell c k) 0 0) ∗ bigSep Finset.univ (fun k => dutyTok ER (recvCell (fw c k) k) 0 0)) : sProp 𝕄)
      ⊢ bigSep Finset.univ (sendOne m c) := by
    rw [← bigSep_sep', ← bigSep_sep', ← bigSep_sep']
    exact Entails.refl _
  rw [local_split, bigSep_eight]
  unfold sending
  rw [since_zero, upto_zero, bigSep_empty, bigSep_rev]
  unfold barPay bk
  simp only [Fin.rev_rev]
  iintro ⟨HO, Hr, ⟨Hlast, Hl⟩, Ht, Ht'⟩
  isplitl [Hlast]; · iexact Hlast
  isplitl [HO]; · iexact HO
  isplitl [Hr Hl Ht Ht']
  · iapply h
    isplitl [Hr]; · iexact Hr
    isplitl [Hl]; · iexact Hl
    isplitl [Ht]; · iexact Ht
    iexact Ht'
  iempintro

/-- All rows sent, the waits for them and for the arrivals begin. -/
theorem waiting_begin (c : Dev nD) :
    iprop(sending m c 7 ∗ bigSep Finset.univ (fun k => cred (tallyAt (recvCell c k) () N))
        ∗ bigSep Finset.univ (fun k => atPos ER (sendCell c k) 0 ∅ 0) ∗ bigSep Finset.univ (fun k => atPos ER (recvCell c k) 0 ∅ 0))
      ⊢ waiting m c 0 := by
  have h : (iprop(bigSep Finset.univ (fun k : Fin 7 => cred (tallyAt (sendCell c k) () N)) ∗ bigSep Finset.univ (fun k => cred (tallyAt (recvCell c k) () N))
        ∗ bigSep Finset.univ (fun k => atPos ER (sendCell c k) 0 ∅ 0) ∗ bigSep Finset.univ (fun k => atPos ER (recvCell c k) 0 ∅ 0)) : sProp 𝕄)
      ⊢ bigSep Finset.univ (waitOne c) := by
    rw [← bigSep_sep', ← bigSep_sep', ← bigSep_sep']
    exact Entails.refl _
  unfold sending waiting
  rw [oweRows_last, since_zero, upto_zero, upto_last, bigSep_empty]
  iintro ⟨⟨HO, -, Hc⟩, Hc', Ha, Ha'⟩
  isplitl [HO]; · iexact HO
  isplitl [Hc Hc' Ha Ha']
  · iapply h
    isplitl [Hc]; · iexact Hc
    isplitl [Hc']; · iexact Hc'
    isplitl [Ha]; · iexact Ha
    iexact Ha'
  iempintro

/-- All waits done: the local row whole again, and the gathering buffer full. -/
theorem waiting_end (c : Dev nD) :
    iprop(localPts m c (Fin.last 7) ∗ rowPts c c (rows m) ∗ waiting m c 7)
      ⊢ (iprop(owing c 0 ∗ (((c : Thread nD τ).loc cc0_scratch1) ↦{fullShare} (part m c : (cc0_scratch1 : Ref sig .tc).ty.Contents (Elt F)))
        ∗ (((c : Thread nD τ).loc cc0_scratch2) ↦{fullShare} (rows m : (cc0_scratch2 : Ref sig .tc).ty.Contents (Elt F)))
        ∗ bigSep Finset.univ (fun k => atPos ER (sendCell c k) (0 + 1) ∅ 0) ∗ bigSep Finset.univ (fun k => atPos ER (recvCell c k) (0 + 1) ∅ 0)) : sProp 𝕄) := by
  rw [local_split, bigSep_eight, rows_split, bigSep_devs c, bigSep_rev fun k => rowPts c (fw c k) (rows m)]
  unfold waiting waitDone
  rw [upto_last, since_last, bigSep_empty, bigSep_sep', bigSep_sep', bigSep_sep']
  iintro ⟨Hlast, Hown, HO, -, Hl, Hr, Ha, Ha'⟩
  isplitl [HO]; · iexact HO
  isplitl [Hlast Hl]
  · isplitl [Hlast]; · iexact Hlast
    iexact Hl
  isplitl [Hown Hr]
  · isplitl [Hown]; · iexact Hown
    iexact Hr
  isplitl [Ha]; · iexact Ha
  iexact Ha'

/-- A family of cells whose round is over closes, each counter at zero. -/
theorem close_cells (c : Dev nD) (j : Fin 7 → CellIx) :
    iprop(held m K ∗ bigSep Finset.univ (fun k => atPos ER (kcell (c, j k)) (0 + 1) ∅ 0))
      ⊢ (iprop(|={Set.univ}=> bigSep Finset.univ (fun k => semVal (kcell (c, j k)) 0)) : sProp 𝕄) := by
  have h : ∀ k : Fin 7, (iprop(cellInv ER (sched m) (K (c, j k)) (kcell (c, j k)) ∗ atPos ER (kcell (c, j k)) (0 + 1) ∅ 0) : sProp 𝕄)
      ⊢ iprop(|={Set.univ}=> semVal (kcell (c, j k)) 0) := fun k => by
    iintro ⟨#Hi, Ha⟩
    imod (Rounds.cell_close ER (sched m) (Set.mem_univ (K (c, j k))) (fun h => h) (R := 0 + 1) (duties_later m (kcell (c, j k)))) $$ [Ha] with Hz
    · isplitr; · iexact Hi
      iexact Ha
    imodintro
    iexact Hz
  have hi : (held m K : sProp 𝕄) ⊢ bigSep Finset.univ fun k : Fin 7 => cellInv ER (sched m) (K (c, j k)) (kcell (c, j k)) :=
    (bigSep_of_persistent Finset.univ (held m K)).trans (bigSep_mono fun k _ => held_inv m K (c, j k))
  refine BIBase.Entails.trans ?_ (bigSep_fupd Finset.univ fun k : Fin 7 => semVal (kcell (c, j k)) 0)
  refine BIBase.Entails.trans (sep_mono_left hi) ?_
  rw [← bigSep_sep']
  exact bigSep_mono fun k _ => h k

/-! ## The operations outside the repeated stages -/

/-- The device's own row goes into its gathering buffer: the load before the store is not used. -/
theorem own_step (c : Dev nD) (off : Fin 2 → Nat) (h : off = k0_off1 c) (inb : ∀ a, off a + S1x768.size a ≤ S8x768.size a)
    (f : (cc0_scratch2 : Ref sig .tc).ty.Contents (Elt F)) (w : FVec F S1x768 .f32) (hw : w = part m c) {hl hx hm}
    {α : Type} {Q : α → sProp 𝕄} {p : PUnit → Prog (TpuEff nD τ sig (Elt F) Λ₀ .tc) α} :
    rowPts c c f
      ⊢ iprop((rowPts c c (rows m) -∗ runs c (p ⟨⟩) Q)
          -∗ runs c (.op (.load gatherM (Rect.unit (s := S8x768) off S1x768.size inb).toLoadRect hl)
              (fun _ => .op (.store gatherM (Rect.unit (s := S8x768) off S1x768.size inb) w Finset.univ hx hm) p)) Q) := by
  subst h hw
  unfold rowPts
  iintro H Hk
  iapply (wp_load 𝒱₀ (c : Thread nD τ) none Set.univ (m := gatherM) (S := (rowM c).view.set) (by
    intro i hi
    obtain ⟨a, ha, rfl⟩ := Finset.mem_map.mp hi
    rw [show (rowM c).view.set = (rowR c).set from set_row c]
    exact ha)) $$ H
  iintro H
  iapply (wp_store 𝒱₀ (c : Thread nD τ) none Set.univ (m := gatherM) (r := rowR c) (Mk := Finset.univ) (S := (rowM c).view.set) (Finset.Subset.refl _)) $$ H
  iintro H
  iapply Hk
  have e := row_landed m c c f
  unfold rowPts at e
  rw [← e]
  iexact H

end Cert.MaxRun

end
-- ==== Proof.Body.lean ====
/-
  The kernel's body on one device, from what the device starts with to what it ends with.
-/
module

public import proofs.«01_k».proof.Proof.Between
public import proofs.«01_k».proof.Proof.Gen.KernelIdeal.Points

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The start and the end of the body -/

/-- The DMA semaphore of the result's copy, and the one no transfer uses. -/
abbrev outS : DmaSem sig := (⟨8, by omega⟩ : Fin 24)
abbrev idleS : DmaSem sig := (⟨16, by omega⟩ : Fin 24)

/-- What a device alone holds of the exchange at the start, and the counters of its other semaphores. -/
def own (c : Dev nD) : sProp 𝕄 :=
  iprop(atPos ER (barCell c) 0 ∅ 0 ∗ cred (tallyAt (barCell c) () 7)
    ∗ bigSep Finset.univ (fun k => atPos ER (sendCell c k) 0 ∅ 0) ∗ bigSep Finset.univ (fun k => atPos ER (recvCell c k) 0 ∅ 0)
    ∗ bigSep Finset.univ (fun k => cred (tallyAt (recvCell c k) () N))
    ∗ bigSep Finset.univ (fun k => dutyTok ER (barCell (fw c k)) 0 k)
    ∗ bigSep Finset.univ (fun k => dutyTok ER (sendCell c k) 0 0) ∗ bigSep Finset.univ (fun k => dutyTok ER (recvCell (fw c k) k) 0 0)
    ∗ bigSep Finset.univ (fun k => semVal ((c : Thread nD τ), .dma (loadS k)) 0) ∗ semVal ((c : Thread nD τ), .dma outS) 0 ∗ semVal ((c : Thread nD τ), .dma idleS) 0)

/-- Buffer `b` of device `c` whole, at some contents. -/
abbrev someWhole (c : Dev nD) (b : Ref sig .tc) : sProp 𝕄 :=
  iprop(∃ f : Buf (Elt F) ((c : Thread nD τ).loc b), (((c : Thread nD τ).loc b) ↦{fullShare} f))

/-- The scratch buffers. -/
def scratch (c : Dev nD) : sProp 𝕄 := iprop(someWhole c cc0_scratch0 ∗ someWhole c cc0_scratch1 ∗ someWhole c cc0_scratch2)

/-- The exchange's knowledge and the device's own part of it; the argument and the result. -/
def start (c : Dev nD) : sProp 𝕄 :=
  iprop((∃ K, held m K ∗ own c) ∗ (((c : Thread nD τ).loc main_arg0) ↦{fullShare} xin m c) ∗ someWhole c main_v1)

/-- The end: every counter zero, the argument as it was, the result in its buffer. -/
def Φ₀ (c : Dev nD) : sProp 𝕄 := iprop(start m c ∗ scratch c)
def Φ₁ (c : Dev nD) : sProp 𝕄 :=
  iprop(semVal (barCell c) 0 ∗ (bigSep Finset.univ (fun k => semVal ((c : Thread nD τ), .dma (loadS k)) 0) ∗ semVal ((c : Thread nD τ), .dma outS) 0
      ∗ bigSep Finset.univ (fun k => semVal (sendCell c k) 0) ∗ semVal ((c : Thread nD τ), .dma idleS) 0 ∗ bigSep Finset.univ (fun k => semVal (recvCell c k) 0))
    ∗ (((c : Thread nD τ).loc main_arg0) ↦{fullShare} xin m c)
    ∗ (((c : Thread nD τ).loc main_v1) ↦{fullShare} (result m : (main_v1 : Ref sig .tc).ty.Contents (Elt F))) ∗ scratch c)

/-- The one call of the body, with no window: what holds before and after, and what is owed. -/
def dats (_ : Fin 1) (c : Dev nD) : Dat τ (Elt F) Unit ℕ UU ℕ cfg0 c where
  A w := m ((cfg0.win w).arr.view.loc (c : Thread nD τ))
  after w _ := (w : Fin 0).elim0
  Φ t := match t with
    | ⟨0, _⟩ => Φ₀ m c
    | ⟨_ + 1, _⟩ => Φ₁ m c
  q _ := fullShare
  owed t := match t with
    | ⟨0, _⟩ => owed c
    | ⟨_ + 1, _⟩ => 0

variable (K : Dev nD × CellIx → ℕ)

/-! ## The devices the body addresses -/

section Devices
variable (c : Dev nD)
theorem sig1 : (⟨k0_dev1 c, k0_dev1_lt c⟩ : Dev nD) = fw c 0 := Fin.ext (k0_dev1_eq c)
theorem sig2 : (⟨k0_dev2 c, k0_dev2_lt c⟩ : Dev nD) = fw c 1 := Fin.ext (k0_dev2_eq c)
theorem sig3 : (⟨k0_dev3 c, k0_dev3_lt c⟩ : Dev nD) = fw c 2 := Fin.ext (k0_dev3_eq c)
theorem sig4 : (⟨k0_dev4 c, k0_dev4_lt c⟩ : Dev nD) = fw c 3 := Fin.ext (k0_dev4_eq c)
theorem sig5 : (⟨k0_dev5 c, k0_dev5_lt c⟩ : Dev nD) = fw c 4 := Fin.ext (k0_dev5_eq c)
theorem sig6 : (⟨k0_dev6 c, k0_dev6_lt c⟩ : Dev nD) = fw c 5 := Fin.ext (k0_dev6_eq c)
theorem sig7 : (⟨k0_dev7 c, k0_dev7_lt c⟩ : Dev nD) = fw c 6 := Fin.ext (k0_dev7_eq c)
theorem dst1 : (⟨k0_dev8 c, k0_dev8_lt c⟩ : Dev nD) = fw c 0 := Fin.ext (k0_dev8_eq c)
theorem dst2 : (⟨k0_dev9 c, k0_dev9_lt c⟩ : Dev nD) = fw c 1 := Fin.ext (k0_dev9_eq c)
theorem dst3 : (⟨k0_dev10 c, k0_dev10_lt c⟩ : Dev nD) = fw c 2 := Fin.ext (k0_dev10_eq c)
theorem dst4 : (⟨k0_dev11 c, k0_dev11_lt c⟩ : Dev nD) = fw c 3 := Fin.ext (k0_dev11_eq c)
theorem dst5 : (⟨k0_dev12 c, k0_dev12_lt c⟩ : Dev nD) = fw c 4 := Fin.ext (k0_dev12_eq c)
theorem dst6 : (⟨k0_dev13 c, k0_dev13_lt c⟩ : Dev nD) = fw c 5 := Fin.ext (k0_dev13_eq c)
theorem dst7 : (⟨k0_dev14 c, k0_dev14_lt c⟩ : Dev nD) = fw c 6 := Fin.ext (k0_dev14_eq c)
theorem own_off : k0_off2 c = k0_off1 c := (k0_off2_eq c).trans (k0_off1_eq c).symm
end Devices

/-! ## The body -/

theorem hz : (![0, 0] : Fin 2 → Nat) = fun _ => 0 := funext fun a => by fin_cases a <;> rfl

abbrev lineR : Rect S1x768 := Rect.unit (s := S1x768) ![0, 0] S1x768.size inb_S1x768_S1x768_0_0
abbrev gatherR : Rect S8x768 := Rect.unit (s := S8x768) ![0, 0] S8x768.size inb_S8x768_S8x768_0_0

omit [FloatOps F] in
theorem read_local (f : (cc0_scratch1 : Ref sig .tc).ty.Contents (Elt F)) : (localM).view.readAt (Elt F) lineR.toLoadRect f = f :=
  Memref.readAt_unit_zero (Elt F) cc0_scratch1 hz _ f
omit [FloatOps F] in
theorem read_gather (f : (cc0_scratch2 : Ref sig .tc).ty.Contents (Elt F)) : (gatherM).view.readAt (Elt F) gatherR.toLoadRect f = f :=
  Memref.readAt_unit_zero (Elt F) cc0_scratch2 hz _ f
omit [FloatOps F] in
theorem write_local (f w : (cc0_scratch1 : Ref sig .tc).ty.Contents (Elt F)) :
    ((localM).access lineR : View sig .tc _ _ _).write (Elt F) f w Finset.univ = w :=
  Memref.write_access_unit_zero_univ (Elt F) cc0_scratch1 hz _ f w

omit [FloatOps F] in
/-- The result's buffer once the local row, holding `w`, is copied there. -/
theorem out_landed (c : Dev nD) (f : (main_v1 : Ref sig .tc).ty.Contents (Elt F)) (w : (cc0_scratch1 : Ref sig .tc).ty.Contents (Elt F)) :
    ((oM).view.loc (c : Thread nD τ) ↦[Finset.univ]{fullShare} (oM).view.write (Elt F) f ((ReadAs.same : ReadAs (Elt F) S1x768 .f32 S1x768 .f32).apply ((localM).view.read (Elt F) w)) Finset.univ : sProp 𝕄)
      = (((c : Thread nD τ).loc main_v1) ↦{fullShare} (w : (main_v1 : Ref sig .tc).ty.Contents (Elt F))) := by
  refine congrArg (fun g : (main_v1 : Ref sig .tc).ty.Contents (Elt F) => (((c : Thread nD τ).loc main_v1) ↦{fullShare} g : sProp 𝕄)) ?_
  exact View.write_whole_univ main_v1 f w

theorem pay5_part (v : Vec F S1x768 .f32) : k0_pay5 v = v := shapeCast_self v _

set_option maxHeartbeats 4000000 in
/-- The body runs, operation by operation, from its start to its end. -/
theorem sound_body (c : Dev nD) (Kt : PUnit → sProp 𝕄) :
    iprop((Φ₀ m c ∗ (dats m 0 c).owesAt () t0_0.castSucc) ∗ ((Φ₁ m c ∗ (dats m 0 c).owesAt () t0_0.succ) -∗ Kt ⟨⟩))
      ⊢ runs c (cc0_body (Memref.whole main_arg0) (Memref.isWhole_whole _) (Memref.whole main_v1) (Memref.isWhole_whole _) (Memref.whole cc0_scratch0)
          (Memref.isWhole_whole _) (Memref.whole cc0_scratch1) (Memref.isWhole_whole _) (Memref.whole cc0_scratch2) (Memref.isWhole_whole _)
          cc0_scratch3 cc0_scratch4 cc0_scratch5) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold Φ₀ start own scratch Dat.owesAt Pipeline.owesWithin
  rw [show (dats m 0 c).owed t0_0.castSucc = owed c from rfl]
  iintro ⟨⟨⟨⟨⟨%K, #Hh, HaB, HcB, HaS, HaR, HcR, HtB, HtS, HtR, HvL, HvO, HvI⟩, Hx, ⟨%fo, Hout⟩⟩, ⟨%f0, Hs0⟩, ⟨%f1, Hs1⟩, ⟨%f2, Hs2⟩⟩, ⟨%W, %hW, HO⟩⟩, Hk⟩
  -- the signals
  ihave Hg := (signalling_begin c f2) $$ [HO HtB Hs2]
  · isplitl [HO]; · unfold owing; iexists W; iexact HO
    isplitl [HtB]; · iexact HtB
    iexact Hs2
  icases Hg with ⟨Hown, Hg⟩
  iapply (signal_step m K c _ 0 0 1 rfl rfl (sig1 c)) $$ Hh Hg; iintro Hg
  iapply (signal_step m K c _ 1 1 2 rfl rfl (sig2 c)) $$ Hh Hg; iintro Hg
  iapply (signal_step m K c _ 2 2 3 rfl rfl (sig3 c)) $$ Hh Hg; iintro Hg
  iapply (signal_step m K c _ 3 3 4 rfl rfl (sig4 c)) $$ Hh Hg; iintro Hg
  iapply (signal_step m K c _ 4 4 5 rfl rfl (sig5 c)) $$ Hh Hg; iintro Hg
  iapply (signal_step m K c _ 5 5 6 rfl rfl (sig6 c)) $$ Hh Hg; iintro Hg
  iapply (signal_step m K c _ 6 6 7 rfl rfl (sig7 c)) $$ Hh Hg; iintro Hg
  ihave HO := (signalling_end c) $$ Hg
  -- the copies of the chunks
  ihave Hg := (copying_begin m c f0) $$ [Hx Hs0 HvL]
  · isplitl [Hx]; · iexact Hx
    isplitl [Hs0]; · iexact Hs0
    iexact HvL
  iapply (copy_step m c 0 0 1 rfl rfl) $$ Hg; iintro Hg
  iapply (copy_step m c 1 1 2 rfl rfl) $$ Hg; iintro Hg
  iapply (copy_step m c 2 2 3 rfl rfl) $$ Hg; iintro Hg
  iapply (copy_step m c 3 3 4 rfl rfl) $$ Hg; iintro Hg
  iapply (copy_step m c 4 4 5 rfl rfl) $$ Hg; iintro Hg
  iapply (copy_step m c 5 5 6 rfl rfl) $$ Hg; iintro Hg
  iapply (copy_step m c 6 6 7 rfl rfl) $$ Hg; iintro Hg
  iapply (copy_step m c 7 7 8 rfl rfl) $$ Hg; iintro Hg
  ihave Hg := (landing_begin m c) $$ [HO Hg]
  · isplitl [HO]; · iexact HO
    iexact Hg
  iapply (land_step m K c 0 0 1 rfl rfl) $$ Hh Hg; iintro Hg
  iapply (land_step m K c 1 1 2 rfl rfl) $$ Hh Hg; iintro Hg
  iapply (land_step m K c 2 2 3 rfl rfl) $$ Hh Hg; iintro Hg
  iapply (land_step m K c 3 3 4 rfl rfl) $$ Hh Hg; iintro Hg
  iapply (land_step m K c 4 4 5 rfl rfl) $$ Hh Hg; iintro Hg
  iapply (land_step m K c 5 5 6 rfl rfl) $$ Hh Hg; iintro Hg
  iapply (land_step m K c 6 6 7 rfl rfl) $$ Hh Hg; iintro Hg
  iapply (land_step m K c 7 7 8 rfl rfl) $$ Hh Hg; iintro Hg
  icases (landing_end m c) $$ Hg with ⟨HO, Hx, Hs0, HvL⟩
  -- the local row takes the part
  iapply (wp_load 𝒱₀ (c : Thread nD τ) none Set.univ (m := localM) (Finset.subset_univ _)) $$ Hs1; iintro Hs1
  iapply (wp_store 𝒱₀ (c : Thread nD τ) none Set.univ (m := localM) (r := lineR) (Mk := Finset.univ) (Finset.subset_univ _)) $$ Hs1; iintro Hs1
  rw [write_local]
  -- the wait for the seven signals
  unfold owing
  icases HO with ⟨%W₁, HO⟩
  iapply (Rounds.wp_wait_rest_token 𝒱₀ ER (sched m) (c : Thread nD τ) none (κ := K (c, .inl ()))
      (wpE_semWait_eq 𝒱₀ (c : Thread nD τ) none Set.univ) (Set.mem_univ _) () (O := oweRows c 0) (W := W₁) (R := 0) (m := 0) (T := ∅)
      (by rw [expect_bar]; decide)) $$ [HcB HO HaB]
  · isplitr; · iapply (held_inv m K (c, .inl ())); iexact Hh
    isplitl [HcB]; · iexact HcB
    isplitl [HO]; · iexact HO
    isplitr; · iapply (mayWait_rows c (.reg barS) (by decide) 0); iapply (held_lev m K); iexact Hh
    iexact HaB
  iintro ⟨HO, HaB, -, Hpay⟩
  ihave Hpay := (Entails.of_eq (round_bar m c)) $$ Hpay
  -- the rows go out
  ihave Hg := (sending_begin m c) $$ [HO Hpay Hs1 HtS HtR]
  · isplitl [HO]; · unfold owing; iexists _; iexact HO
    isplitl [Hpay]; · iexact Hpay
    isplitl [Hs1]; · iexact Hs1
    isplitl [HtS]; · iexact HtS
    iexact HtR
  icases Hg with ⟨Hl, Hg⟩
  iapply (send_step m K c _ 0 0 1 rfl rfl (dst1 c)) $$ Hh Hg; iintro Hg
  iapply (send_step m K c _ 1 1 2 rfl rfl (dst2 c)) $$ Hh Hg; iintro Hg
  iapply (send_step m K c _ 2 2 3 rfl rfl (dst3 c)) $$ Hh Hg; iintro Hg
  iapply (send_step m K c _ 3 3 4 rfl rfl (dst4 c)) $$ Hh Hg; iintro Hg
  iapply (send_step m K c _ 4 4 5 rfl rfl (dst5 c)) $$ Hh Hg; iintro Hg
  iapply (send_step m K c _ 5 5 6 rfl rfl (dst6 c)) $$ Hh Hg; iintro Hg
  iapply (send_step m K c _ 6 6 7 rfl rfl (dst7 c)) $$ Hh Hg; iintro Hg
  -- the device's own row
  unfold localPts
  iapply (wp_load 𝒱₀ (c : Thread nD τ) none Set.univ (m := localM) (S := (localM).view.set) (by rw [View.set_whole]; exact Finset.subset_univ _)) $$ Hl; iintro Hl
  rw [read_local]
  iapply (own_step m c _ (own_off c) (k0_off2_inb c) f2 _ (pay5_part (part m c))) $$ Hown; iintro Hown
  -- the waits for the rows sent and received
  ihave Hg := (waiting_begin m c) $$ [Hg HcR HaS HaR]
  · isplitl [Hg]; · iexact Hg
    isplitl [HcR]; · iexact HcR
    isplitl [HaS]; · iexact HaS
    iexact HaR
  iapply (wait_step m K c 0 0 1 rfl rfl) $$ Hh Hg; iintro Hg
  iapply (wait_step m K c 1 1 2 rfl rfl) $$ Hh Hg; iintro Hg
  iapply (wait_step m K c 2 2 3 rfl rfl) $$ Hh Hg; iintro Hg
  iapply (wait_step m K c 3 3 4 rfl rfl) $$ Hh Hg; iintro Hg
  iapply (wait_step m K c 4 4 5 rfl rfl) $$ Hh Hg; iintro Hg
  iapply (wait_step m K c 5 5 6 rfl rfl) $$ Hh Hg; iintro Hg
  iapply (wait_step m K c 6 6 7 rfl rfl) $$ Hh Hg; iintro Hg
  ihave Hg := (waiting_end m c) $$ [Hl Hown Hg]
  · isplitl [Hl]; · unfold localPts; iexact Hl
    isplitl [Hown]; · iexact Hown
    iexact Hg
  icases Hg with ⟨HO, Hs1, Hs2, HaS, HaR⟩
  -- the maximum of the eight rows, through the local row to the result
  iapply (wp_load 𝒱₀ (c : Thread nD τ) none Set.univ (m := gatherM) (Finset.subset_univ _)) $$ Hs2; iintro Hs2
  rw [read_gather]
  iapply (wp_load 𝒱₀ (c : Thread nD τ) none Set.univ (m := localM) (Finset.subset_univ _)) $$ Hs1; iintro Hs1
  iapply (wp_store 𝒱₀ (c : Thread nD τ) none Set.univ (m := localM) (r := lineR) (Mk := Finset.univ) (Finset.subset_univ _)) $$ Hs1; iintro Hs1
  rw [write_local]
  iapply (Transfers.wp_dmaLocal EC 𝒱₀ (c : Thread nD τ) none (src := localM) (dst := oM) (q := fullShare) (fs := result m) (Sd := Finset.univ) (fd := fo) () N rfl N_pos
      (Finset.subset_univ _)) $$ [Hs1 Hout HvO]
  · isplitl [Hs1]; · rw [View.set_whole]; iexact Hs1
    isplitl [Hout]; · iexact Hout
    iexact HvO
  iintro HF
  unfold owing
  icases HO with ⟨%W₂, HO⟩
  iapply (Transfers.wp_waitLocal EC 𝒱₀ (c : Thread nD τ) none (srcw := localM) (dstw := oM) () (N := N) rfl (W := W₂)) $$ [HF HO]
  · isplitl [HF]; · iexact HF
    iexact HO
  iintro ⟨⟨Hout, Hs1⟩, HvO, HO⟩
  -- the cells close
  imod (Rounds.cell_close ER (sched m) (Set.mem_univ (K (c, .inl ()))) (fun h => h) (R := 0 + 1) (duties_later m (barCell c))) $$ [HaB] with HvB
  · isplitr; · iapply (held_inv m K (c, .inl ())); iexact Hh
    iexact HaB
  imod (close_cells m K c fun k => .inr (.inl k)) $$ [HaS] with HvS
  · isplitr; · iexact Hh
    iexact HaS
  imod (close_cells m K c fun k => .inr (.inr k)) $$ [HaR] with HvR
  · isplitr; · iexact Hh
    iexact HaR
  rw [wp_ret]; imodintro
  iapply Hk
  rw [show (dats m 0 c).owed t0_0.succ = 0 from rfl]
  unfold Φ₁ scratch
  isplitr [HO]
  · isplitl [HvB]; · iexact HvB
    isplitl [HvL HvO HvS HvI HvR]
    · isplitl [HvL]; · iexact HvL
      isplitl [HvO]; · iexact HvO
      isplitl [HvS]; · iexact HvS
      isplitl [HvI]; · iexact HvI
      iexact HvR
    isplitl [Hx]; · iexact Hx
    isplitl [Hout]
    · iapply (Entails.of_eq (out_landed c fo (result m))) $$ Hout
    isplitl [Hs0]; · iexists _; iexact Hs0
    isplitl [Hs1]; · iexists _; rw [View.set_whole]; iexact Hs1
    iexists _; iexact Hs2
  iexists (insert (SemLoc.dma outS, ()) W₂)
  isplitr
  · ipureintro; exact fun _ _ => Or.inl trivial
  iexact HO

/-- What the launch asks of the body on each device. -/
theorem body_obligation (c : Dev nD) : BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats m 0 c).owesAt () t0_0.castSucc ∗ emp) ⊢ runs c (bodyAt0 t0_0) (fun _ => iprop(Φ₁ m c ∗ (dats m 0 c).owesAt () t0_0.succ ∗ emp))
  iintro ⟨H, Ho, -⟩
  iapply (sound_body m c fun _ => iprop(Φ₁ m c ∗ (dats m 0 c).owesAt () t0_0.succ ∗ emp))
  isplitl [H Ho]
  · isplitl [H]; · iexact H
    iexact Ho
  iintro ⟨H, Ho⟩
  isplitl [H]; · iexact H
  isplitl [Ho]; · iexact Ho
  iempintro

end Cert.MaxRun

end
-- ==== Proof.Launch.lean ====
/-
  The launch: the exchange's cells funded and shared among the eight devices, and the run of the whole program.
-/
module

public import proofs.«01_k».proof.Proof.Body
public import Idealize.ShloMosaic.Lib.Pipeline.CollectiveSegs

@[expose] public section

noncomputable section

namespace Cert.MaxRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: all the DMA semaphores. -/
abbrev osem : Fin 24 → SemLoc sig := fun i => .dma i

/-- The uses of the DMA semaphores: eight chunk copies, the result's copy, seven rows sent, one idle, seven rows received. -/
abbrev SemUse : Type := Fin 8 ⊕ (Unit ⊕ (Fin 7 ⊕ (Unit ⊕ Fin 7)))
def semAt : SemUse → Fin 24
  | .inl k => loadS k
  | .inr (.inl _) => outS
  | .inr (.inr (.inl k)) => sendS k
  | .inr (.inr (.inr (.inl _))) => idleS
  | .inr (.inr (.inr (.inr k))) => recvS k
def semUses : SemUse ≃ Fin 24 := Equiv.ofBijective semAt ((Fintype.bijective_iff_injective_and_card _).mpr ⟨by decide, by decide⟩)

theorem ownSemFacts : Pipeline.OwnSemFacts cfg0.spec osem := by decide

omit [FloatOps F] in
/-- The kernel's own counters at zero, by use. -/
theorem ownSems_eq (c : Dev nD) : (Pipeline.ownSems0 (Ix := Unit) (Name := ℕ) (U := UU) (Lvl := ℕ) (Val := Elt F) (τ := τ) osem c : sProp 𝕄)
    = iprop(bigSep Finset.univ (fun k => semVal ((c : Thread nD τ), .dma (loadS k)) 0) ∗ semVal ((c : Thread nD τ), .dma outS) 0
      ∗ bigSep Finset.univ (fun k => semVal (sendCell c k) 0) ∗ semVal ((c : Thread nD τ), .dma idleS) 0 ∗ bigSep Finset.univ (fun k => semVal (recvCell c k) 0)) := by
  unfold Pipeline.ownSems0
  rw [bigSep_univ_equiv semUses, bigSep_univ_sum, bigSep_univ_sum, bigSep_univ_sum, bigSep_univ_sum, bigSep_univ_of_subsingleton (), bigSep_univ_of_subsingleton ()]
  rfl

omit [FloatOps F] in
/-- The barrier's counter is the one that outlives the call. -/
theorem barSem_eq (c : Dev nD) : (unscopedSems0 c : sProp 𝕄) = semVal (barCell c) 0 := by
  unfold unscopedSems0
  rw [bigSep_eq_bigSepL_of_eq [SemLoc.reg barS] (by decide) (by decide)]
  rfl

omit [FloatOps F] in
/-- A resource per cell of a device: the barrier's, the send cells', the receive cells'. -/
theorem bigSep_cellIx (Φ : CellIx → sProp 𝕄) : bigSep Finset.univ Φ
    = iprop(Φ (.inl ()) ∗ bigSep Finset.univ (fun k => Φ (.inr (.inl k))) ∗ bigSep Finset.univ (fun k => Φ (.inr (.inr k)))) := by
  rw [bigSep_univ_sum, bigSep_univ_sum, bigSep_univ_of_subsingleton ()]
  rfl

/-- The counters the exchange does not use. -/
def spare (c : Dev nD) : sProp 𝕄 :=
  iprop(bigSep Finset.univ (fun k => semVal ((c : Thread nD τ), .dma (loadS k)) 0) ∗ semVal ((c : Thread nD τ), .dma outS) 0 ∗ semVal ((c : Thread nD τ), .dma idleS) 0)

omit [FloatOps F] in
/-- All of a device's counters: the exchange's cells' and the spare ones. -/
theorem counters (c : Dev nD) :
    iprop(Pipeline.ownSems0 (Ix := Unit) (Name := ℕ) (U := UU) (Lvl := ℕ) (Val := Elt F) (τ := τ) osem c ∗ unscopedSems0 c)
      ⊢ (iprop(bigSep Finset.univ (fun j : CellIx => semVal (kcell (c, j)) 0) ∗ spare c) : sProp 𝕄) := by
  rw [ownSems_eq, barSem_eq, bigSep_cellIx]
  unfold spare
  iintro ⟨⟨HL, HO, HS, HI, HR⟩, HB⟩
  isplitl [HB HS HR]
  · isplitl [HB]; · iexact HB
    isplitl [HS]; · iexact HS
    iexact HR
  isplitl [HL]; · iexact HL
  isplitl [HO]; · iexact HO
  iexact HI

/-! ## The cells and the rights of the exchange -/

theorem kcell_inj : Function.Injective (kcell : Dev nD × CellIx → GSem nD τ sig) := fun p q h =>
  Prod.ext (congrArg (fun g : GSem nD τ sig => g.1.1) h) (csem_inj (congrArg (fun g : GSem nD τ sig => g.2) h))

/-- The cells of all devices. -/
def allCells : Finset (GSem nD τ sig) := Finset.univ.map ⟨kcell, kcell_inj⟩

/-- The rights to pay into a device's cells: seven at its barrier, one at each other cell. -/
abbrev Right : Type := Fin 7 ⊕ (Fin 7 ⊕ Fin 7)
def rightAt : Right → CellIx × Fin 7
  | .inl k => (.inl (), k)
  | .inr (.inl k) => (.inr (.inl k), 0)
  | .inr (.inr k) => (.inr (.inr k), 0)
theorem rightAt_inj : Function.Injective rightAt := by decide
def rightOf (p : Dev nD × Right) : GSem nD τ sig × ℕ × Fin 7 := (kcell (p.1, (rightAt p.2).1), 0, (rightAt p.2).2)
theorem rightOf_inj : Function.Injective rightOf := fun p q h => by
  have h1 := kcell_inj (congrArg (fun x : GSem nD τ sig × ℕ × Fin 7 => x.1) h)
  exact Prod.ext (Prod.mk.inj h1).1 (rightAt_inj (Prod.ext (Prod.mk.inj h1).2 (congrArg (fun x : GSem nD τ sig × ℕ × Fin 7 => x.2.2) h)))
def allRights : Finset (GSem nD τ sig × ℕ × Fin 7) := Finset.univ.map ⟨rightOf, rightOf_inj⟩

/-- The launch element: the pipeline's part, the exchange's, and no counter. -/
def u₀ : UU := (initOf (Pipeline.cells cfgs cellOf_inj) (Pipeline.launchToks cfgs cellOf_inj), (initOf allCells allRights, 1))

/-- What the launch element gives device `c`: for its own cells their states, positions, records and rights. -/
def G (c : Dev nD) : sProp 𝕄 :=
  iprop(bigSep Finset.univ (fun j : CellIx => roundState ER (sched m) (kcell (c, j)) 0) ∗ bigSep Finset.univ (fun j : CellIx => atPos ER (kcell (c, j)) 0 ∅ 0)
    ∗ bigSep Finset.univ (fun j : CellIx => reached ER (kcell (c, j)) 0)
    ∗ bigSep Finset.univ fun r : Right => dutyTok ER (rightOf (c, r)).1 (rightOf (c, r)).2.1 (rightOf (c, r)).2.2)

/-- The exchange's part of the launch element, device by device. -/
theorem fund_exchange : BI.own (ER (initOf allCells allRights)) ⊢ (|==> bigSep Finset.univ (G m) : sProp 𝕄) := by
  have hc (Φ : GSem nD τ sig → sProp 𝕄) : bigSep allCells Φ = bigSep Finset.univ fun c : Dev nD => bigSep Finset.univ fun j : CellIx => Φ (kcell (c, j)) := by
    unfold allCells; rw [bigSep_map, bigSep_univ_prod]; rfl
  have hr (Φ : GSem nD τ sig × ℕ × Fin 7 → sProp 𝕄) : bigSep allRights Φ = bigSep Finset.univ fun c : Dev nD => bigSep Finset.univ fun r : Right => Φ (rightOf (c, r)) := by
    unfold allRights; rw [bigSep_map, bigSep_univ_prod]; rfl
  iintro H
  imod (Rounds.fund ER (sched m) allCells allRights) $$ H with ⟨Hst, Hre, Hat, Htk⟩
  imodintro
  ihave Hst := (Entails.of_eq (hc fun g => roundState ER (sched m) g 0)) $$ Hst
  ihave Hre := (Entails.of_eq (hc fun g => reached ER g 0)) $$ Hre
  ihave Hat := (Entails.of_eq (hc fun g => atPos ER g 0 ∅ 0)) $$ Hat
  ihave Htk := (Entails.of_eq (hr fun x => dutyTok ER x.1 x.2.1 x.2.2)) $$ Htk
  unfold G
  rw [bigSep_sep', bigSep_sep', bigSep_sep']
  isplitl [Hst]; · iexact Hst
  isplitl [Hat]; · iexact Hat
  isplitl [Hre]; · iexact Hre
  iexact Htk

/-! ## The cells opened to all, the rights passed to those who pay -/

/-- What every device may know: each cell of the exchange is governed, and its first round is open. -/
def known (K : Dev nD × CellIx → ℕ) : sProp 𝕄 :=
  iprop(bigSep Finset.univ (fun p : Dev nD × CellIx => cellInv ER (sched m) (K p) (kcell p)) ∗ bigSep Finset.univ (fun p : Dev nD × CellIx => reached ER (kcell p) 0))

instance known_persistent (K : Dev nD × CellIx → ℕ) : BI.Persistent (known (F := F) m K) := by unfold known; infer_instance

/-- What device `c` alone gets: its positions, the rights it pays with, and its spare counters. -/
def deal (c : Dev nD) : sProp 𝕄 :=
  iprop(bigSep Finset.univ (fun j : CellIx => atPos ER (kcell (c, j)) 0 ∅ 0)
    ∗ (bigSep Finset.univ (fun k => dutyTok ER (barCell (fw c k)) 0 k) ∗ bigSep Finset.univ (fun k => dutyTok ER (sendCell c k) 0 0)
      ∗ bigSep Finset.univ (fun k => dutyTok ER (recvCell (fw c k) k) 0 0))
    ∗ spare c)

/-- What the global step makes for device `c`. -/
def G' (c : Dev nD) : sProp 𝕄 := iprop(∃ K, known m K ∗ deal c)

/-- The pair (device, `k`) moved `k + 1` places on. -/
def turnAll : Dev nD × Fin 7 ≃ Dev nD × Fin 7 :=
  ⟨fun p => (fw p.1 p.2, p.2), fun p => (bk p.1 p.2, p.2), fun p => Prod.ext (bk_fw p.1 p.2) rfl, fun p => Prod.ext (fw_bk p.1 p.2) rfl⟩

omit [FloatOps F] in
/-- A resource per device and place, each moved to the device that many places before. -/
theorem passed_back (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (fw c k) k := by
  have h := bigSep_univ_equiv turnAll (fun p : Dev nD × Fin 7 => Φ p.1 p.2)
  rw [bigSep_univ_prod, bigSep_univ_prod] at h
  exact h

omit [FloatOps F] in
/-- All devices' own cells' rights are all the rights the devices pay with. -/
theorem rights_passed :
    (bigSep Finset.univ fun c : Dev nD => bigSep Finset.univ fun r : Right => (dutyTok ER (rightOf (c, r)).1 (rightOf (c, r)).2.1 (rightOf (c, r)).2.2 : sProp 𝕄))
      = bigSep Finset.univ fun c : Dev nD => iprop(bigSep Finset.univ (fun k => dutyTok ER (barCell (fw c k)) 0 k) ∗ bigSep Finset.univ (fun k => dutyTok ER (sendCell c k) 0 0)
        ∗ bigSep Finset.univ (fun k => dutyTok ER (recvCell (fw c k) k) 0 0)) := by
  have h (c : Dev nD) : (bigSep Finset.univ fun r : Right => (dutyTok ER (rightOf (c, r)).1 (rightOf (c, r)).2.1 (rightOf (c, r)).2.2 : sProp 𝕄))
      = iprop(bigSep Finset.univ (fun k => dutyTok ER (barCell c) 0 k) ∗ bigSep Finset.univ (fun k => dutyTok ER (sendCell c k) 0 0)
        ∗ bigSep Finset.univ (fun k => dutyTok ER (recvCell c k) 0 0)) := by
    rw [bigSep_univ_sum, bigSep_univ_sum]; rfl
  rw [bigSep_congr (s := Finset.univ) fun c _ => h c, bigSep_sep', bigSep_sep', bigSep_sep', bigSep_sep',
    passed_back fun c k => dutyTok ER (barCell c) 0 k, passed_back fun c k => dutyTok ER (recvCell c k) 0 0]

/-- On one device: its counters and states become its cells' invariants. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop(bigSep Finset.univ (fun j : CellIx => iprop(∃ κ : ℕ, cellInv ER (sched m) κ (kcell (c, j))))
          ∗ bigSep Finset.univ (fun j : CellIx => atPos ER (kcell (c, j)) 0 ∅ 0) ∗ bigSep Finset.univ (fun j : CellIx => reached ER (kcell (c, j)) 0)
          ∗ (bigSep Finset.univ fun r : Right => dutyTok ER (rightOf (c, r)).1 (rightOf (c, r)).2.1 (rightOf (c, r)).2.2) ∗ spare c) := by
  have h : iprop(bigSep Finset.univ (fun j : CellIx => semVal (kcell (c, j)) 0) ∗ bigSep Finset.univ (fun j : CellIx => roundState ER (sched m) (kcell (c, j)) 0))
      ⊢ (|={Set.univ}=> bigSep Finset.univ (fun j : CellIx => iprop(∃ κ : ℕ, cellInv ER (sched m) κ (kcell (c, j)))) : sProp 𝕄) := by
    rw [← bigSep_sep']
    exact (bigSep_mono fun j _ => (Rounds.body_intro ER (sched m) (kcell (c, j))).trans inv_alloc).trans (bigSep_fupd _ _)
  unfold G
  iintro ⟨Hown, Hbar, Hst, Hat, Hre, Htk⟩
  ihave Hv := (counters c) $$ [Hown Hbar]
  · isplitl [Hown]; · iexact Hown
    iexact Hbar
  icases Hv with ⟨Hv, Hsp⟩
  imod h $$ [Hv Hst] with Hinv
  · isplitl [Hv]; · iexact Hv
    iexact Hst
  imodintro
  isplitl [Hinv]; · iexact Hinv
  isplitl [Hat]; · iexact Hat
  isplitl [Hre]; · iexact Hre
  isplitl [Htk]; · iexact Htk
  iexact Hsp

omit [FloatOps F] in
/-- What persists may be used for every member of a family. -/
theorem bigSep_using {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ := by
  have h' : iprop(bigSep S (fun _ => R) ∗ bigSep S Φ) ⊢ bigSep S Ψ := by rw [← bigSep_sep']; exact bigSep_mono h
  iintro ⟨HR, HΦ⟩
  iapply h'
  isplitl [HR]
  · iapply (BI.bigSep_of_persistent S R) $$ HR
  iexact HΦ

/-- Across all devices: the invariants' names are chosen at once, and each device gets its deal. -/
theorem share_out :
    (bigSep Finset.univ fun c : Dev nD => iprop(bigSep Finset.univ (fun j : CellIx => iprop(∃ κ : ℕ, cellInv ER (sched m) κ (kcell (c, j))))
          ∗ bigSep Finset.univ (fun j : CellIx => atPos ER (kcell (c, j)) 0 ∅ 0) ∗ bigSep Finset.univ (fun j : CellIx => reached ER (kcell (c, j)) 0)
          ∗ (bigSep Finset.univ fun r : Right => dutyTok ER (rightOf (c, r)).1 (rightOf (c, r)).2.1 (rightOf (c, r)).2.2) ∗ spare c) : sProp 𝕄)
      ⊢ bigSep Finset.univ (G' m) := by
  have hgive (K : Dev nD × CellIx → ℕ) (c : Dev nD) : iprop(known m K ∗ deal c) ⊢ G' m c := by
    unfold G'; iintro H; iexists K; iexact H
  have hdeal : iprop((bigSep Finset.univ fun c : Dev nD => bigSep Finset.univ fun j : CellIx => atPos ER (kcell (c, j)) 0 ∅ 0)
      ∗ (bigSep Finset.univ fun c : Dev nD => iprop(bigSep Finset.univ (fun k => dutyTok ER (barCell (fw c k)) 0 k) ∗ bigSep Finset.univ (fun k => dutyTok ER (sendCell c k) 0 0)
        ∗ bigSep Finset.univ (fun k => dutyTok ER (recvCell (fw c k) k) 0 0)))
      ∗ bigSep Finset.univ fun c : Dev nD => spare c) ⊢ (bigSep Finset.univ fun c : Dev nD => deal c : sProp 𝕄) := by
    rw [← bigSep_sep', ← bigSep_sep']
    exact BIBase.Entails.rfl
  rw [bigSep_sep', bigSep_sep', bigSep_sep', bigSep_sep', rights_passed,
    ← bigSep_univ_prod (fun p : Dev nD × CellIx => iprop(∃ κ : ℕ, cellInv ER (sched m) κ (kcell p))),
    ← bigSep_univ_prod (fun p : Dev nD × CellIx => (reached ER (kcell p) 0 : sProp 𝕄))]
  iintro ⟨HI, Hat, #Hre, Htk, Hsp⟩
  ihave HI := (BI.bigSep_exists_pi Finset.univ (fun (p : Dev nD × CellIx) (κ : ℕ) => (cellInv ER (sched m) κ (kcell p) : sProp 𝕄))) $$ HI
  icases HI with ⟨%K, #HI⟩
  iapply (bigSep_using (R := known m K) fun c _ => hgive K c)
  isplitr
  · unfold known
    isplitl; · iexact HI
    iexact Hre
  iapply hdeal
  isplitl [Hat]; · iexact Hat
  isplitl [Htk]; · iexact Htk
  iexact Hsp

/-- The global step. -/
theorem global_step :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => open_cells m c).trans (bigSep_fupd _ _)).trans (BI.fupd_mono (share_out m))

/-! ## What each cell is owed at the launch -/

/-- A sum over devices and places of what is `k + 1` places on is the sum itself. -/
theorem sum_passed (h : Dev nD → Fin 7 → ℕ) : (∑ d : Dev nD, ∑ k : Fin 7, h (fw d k) k) = ∑ d : Dev nD, ∑ k : Fin 7, h d k := by
  rw [← Fintype.sum_prod_type' (f := fun d k => h (fw d k) k), ← Fintype.sum_prod_type' (f := h)]
  exact Equiv.sum_comp turnAll fun p => h p.1 p.2

theorem since_all : since (n := 7) 0 = Finset.univ := by decide

theorem owed_apply (d : Dev nD) (g : GSem nD τ sig) :
    owed d g () = ∑ k : Fin 7, (tallyAt (recvCell (fw d k) k) () N g () + tallyAt (barCell (fw d k)) () 1 g ()) := by
  unfold owed oweRows oweSignals
  rw [since_all, Pi.add_apply, Finsupp.add_apply, Finset.sum_add_distrib, Finset.sum_apply, Finset.sum_apply, Finsupp.finset_sum_apply, Finsupp.finset_sum_apply]

/-- What all devices together owe a cell. -/
theorem owed_total (g : GSem nD τ sig) :
    (∑ d : Dev nD, owed d g ()) = ∑ d : Dev nD, ∑ k : Fin 7, (tallyAt (recvCell d k) () N g () + tallyAt (barCell d) () 1 g ()) := by
  rw [Finset.sum_congr rfl fun d _ => owed_apply d g]
  exact sum_passed fun d k => tallyAt (recvCell d k) () N g () + tallyAt (barCell d) () 1 g ()

theorem recv_ne_bar (d c : Dev nD) (k : Fin 7) : barCell c ≠ recvCell d k := fun h => by
  have := congrArg (fun g : GSem nD τ sig => role g.2) h
  dsimp only at this
  rw [role_bar, role_recv] at this
  cases this
theorem recv_eq {d c : Dev nD} {k j : Fin 7} (h : recvCell c j = recvCell d k) : c = d ∧ j = k := by
  have := kcell_inj (a₁ := (c, .inr (.inr j))) (a₂ := (d, .inr (.inr k))) h
  cases this; exact ⟨rfl, rfl⟩
theorem bar_eq {d c : Dev nD} (h : barCell c = barCell d) : c = d := congrArg (fun g : GSem nD τ sig => g.1.1) h

/-- A barrier is owed seven signals; -/
theorem owed_bar (c : Dev nD) : (∑ d : Dev nD, owed d (barCell c) ()) = 7 := by
  rw [owed_total, Finset.sum_eq_single c]
  · simp only [tallyAt_ne_cell (recv_ne_bar _ _ _), Finsupp.zero_apply, Nat.zero_add, tallyAt_self]; rfl
  · intro d _ hd
    refine Finset.sum_eq_zero fun k _ => ?_
    rw [tallyAt_ne_cell (recv_ne_bar _ _ _), tallyAt_ne_cell fun h => hd (bar_eq h).symm]; rfl
  · exact fun h => absurd (Finset.mem_univ _) h
/-- a receive cell one row. -/
theorem owed_recv (c : Dev nD) (j : Fin 7) : (∑ d : Dev nD, owed d (recvCell c j) ()) = N := by
  rw [owed_total, Finset.sum_eq_single c, Finset.sum_eq_single j]
  · rw [tallyAt_ne_cell (recv_ne_bar _ _ _).symm, tallyAt_self]; rfl
  · intro k _ hk
    rw [tallyAt_ne_cell fun h => hk (recv_eq h).2.symm, tallyAt_ne_cell (recv_ne_bar _ _ _).symm]; rfl
  · exact fun h => absurd (Finset.mem_univ _) h
  · intro d _ hd
    refine Finset.sum_eq_zero fun k _ => ?_
    rw [tallyAt_ne_cell fun h => hd (recv_eq h).1.symm, tallyAt_ne_cell (recv_ne_bar _ _ _).symm]; rfl
  · exact fun h => absurd (Finset.mem_univ _) h

/-- A cell's credit at the launch is what it is owed. -/
theorem credit_eq (g : GSem nD τ sig) {n : ℕ} (h : (∑ d : Dev nD, owed d g ()) = n) :
    tallyOn g (launchCredit (Pipeline.owing owed) 0 g) = (tallyAt g () n : CellTallies nD τ sig Unit) := by
  unfold tallyAt
  refine congrArg _ (Finsupp.ext fun u => ?_)
  cases u
  rw [Pipeline.launchCredit_owing, Finsupp.single_eq_same, h]

omit [FloatOps F] in
/-- A device's credits at the launch: seven signals and seven rows. -/
theorem credits (c : Dev nD) :
    (Pipeline.launchCred owed c : sProp 𝕄) ⊢ iprop(cred (tallyAt (barCell c) () 7) ∗ bigSep Finset.univ fun k => cred (tallyAt (recvCell c k) () N)) := by
  have h : (Pipeline.launchCred owed c : sProp 𝕄)
      ⊢ bigSep (Finset.univ.map ⟨csem, csem_inj⟩) fun sm => cred (tallyOn ((c : Thread nD τ), sm) (launchCredit (Pipeline.owing owed) 0 ((c : Thread nD τ), sm))) :=
    bigSep_subset (Finset.subset_univ _)
  rw [bigSep_map, bigSep_cellIx] at h
  refine BIBase.Entails.trans h ?_
  show iprop(cred (tallyOn (barCell c) (launchCredit (Pipeline.owing owed) 0 (barCell c)))
      ∗ bigSep Finset.univ (fun k => cred (tallyOn (sendCell c k) (launchCredit (Pipeline.owing owed) 0 (sendCell c k))))
      ∗ bigSep Finset.univ (fun k => cred (tallyOn (recvCell c k) (launchCredit (Pipeline.owing owed) 0 (recvCell c k)))) : sProp 𝕄) ⊢ _
  rw [credit_eq (barCell c) (owed_bar c)]
  simp only [credit_eq (recvCell c _) (owed_recv c _)]
  iintro ⟨HB, -, HR⟩
  isplitl [HB]; · iexact HB
  iexact HR

/-! ## The conditions of the launch -/

theorem share_full (c : Dev nD) (w : Fin cfg0.W) : (dats m 0 c).share w = fullShare := w.elim0

/-- A device's start, from what the launch leaves it. -/
theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  rw [Pipeline.unscopedRestP_none, unscopedRest0_eq]
  unfold G' known deal
  rw [bigSep_cellIx]
  unfold start held own spare
  iintro ⟨⟨Hx, Ho⟩, Hlev, Hcr, -, ⟨%K, ⟨HI, HR⟩, ⟨HaB, HaS, HaV⟩, ⟨HtB, HtS, HtV⟩, HL, HO, HZ⟩⟩
  ihave Hcr := (credits c) $$ Hcr
  icases Hcr with ⟨HcB, HcV⟩
  imodintro
  isplitl
  · isplitr [Hx Ho]
    · iexists K
      isplitl [HI HR Hlev]
      · isplitl [HI]; · iexact HI
        isplitl [HR]; · iexact HR
        iexact Hlev
      isplitl [HaB]; · iexact HaB
      isplitl [HcB]; · iexact HcB
      isplitl [HaS]; · iexact HaS
      isplitl [HaV]; · iexact HaV
      isplitl [HcV]; · iexact HcV
      isplitl [HtB]; · iexact HtB
      isplitl [HtS]; · iexact HtS
      isplitl [HtV]; · iexact HtV
      isplitl [HL]; · iexact HL
      isplitl [HO]; · iexact HO
      iexact HZ
    isplitl [Hx]; · iexact Hx
    iexists _; iexact Ho
  iempintro

/-- The body's start, from the device's start and its scratch buffers. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is left of a device at the end besides the call's own: its barrier's counter at zero, its argument, its result. -/
def final (c : Dev nD) : sProp 𝕄 :=
  iprop(unscopedSems0 c ∗ (((c : Thread nD τ).loc main_arg0) ↦{fullShare} xin m c)
    ∗ (((c : Thread nD τ).loc main_v1) ↦{fullShare} (result m : (main_v1 : Ref sig .tc).ty.Contents (Elt F))))

/-- The body's end gives back the counters and the scratch buffers. -/
theorem leave (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems_eq]
  unfold Φ₁ final scratch
  rw [barSem_eq]
  iintro ⟨HB, Hs, Hx, Ho, Hr⟩
  isplitl [HB Hx Ho]
  · isplitl [HB]; · iexact HB
    isplitl [Hx]; · iexact Hx
    iexact Ho
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w _ _ => w.elim0

/-- What a device's final memory holds. -/
def Ends (c : Dev nD) (s : MemSt nD τ sig (Elt F)) : Prop :=
  (s.mem ((c : Thread nD τ).loc main_arg0) = xin m c ∧ s.mem ((c : Thread nD τ).loc main_v1) = (result m : (main_v1 : Ref sig .tc).ty.Contents (Elt F)))
    ∧ ∀ sm : SemLoc sig, sm.isScoped .tc = false → s.sem ((c.tc : Thread nD τ), sm) = 0

theorem read_final (c : Dev nD) (s' : Phys nD τ sig (Elt F)) : iprop(final m c ∗ emp ∗ SI s') ⊢ |={Set.univ}=> iprop(⌜Ends m c s'.mem⌝ ∗ SI s') := by
  unfold final
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨⟨Buf.eq_of_forall_mem_univ hx, Buf.eq_of_forall_mem_univ ho⟩, hs⟩
  iexact HSI

/-! ## The run -/

set_option maxRecDepth 8000 in
/-- On the eight devices, whatever the float values are and whatever memory the run starts from with all counters zero: every fair run of the program
    ends without a fault, and then each device's argument is what it was, its result is `result m`, and every counter is zero. -/
theorem run_main : θ_run defs (onTc (τ := τ) (main (F := F))) ⟨m, fun _ => 0, ρ⟩ (fun r =>
    (∀ c : Dev nD, r.2.mem ((c : Thread nD τ).loc main_arg0) = xin m c ∧ r.2.mem ((c : Thread nD τ).loc main_v1) = (result m : (main_v1 : Ref sig .tc).ty.Contents (Elt F)))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_full m)
    (hdistinct := winFacts0.arr_inj)
    (O₀ := owed) (howed₀ := fun _ => rfl) (howedN := fun _ => rfl)
    (L := L) (lv := lv) (hL := L_of_ne) (hwaits := waits m)
    (G := G m) (G' := G' m) (u₀ := u₀)
    (hu₀ := by
      unfold u₀
      iintro H
      ihave H := (ownU_pair _ _) $$ H
      icases H with ⟨HP, HX⟩
      ihave HX := (show (BI.own ((embR : Emb (UB × Counters) 𝕄) (initOf allCells allRights, 1)) : sProp 𝕄) ⊢ BI.own (ER (initOf allCells allRights)) from Entails.of_eq rfl) $$ HX
      imod (fund_exchange m) $$ HX with HG
      imodintro
      isplitl [HP]; · iexact HP
      iexact HG)
    (hglob := global_step m)
    (hA := fun _ _ => rfl) (hpf := fun _ k => k.elim0)
    (X := start m) (Y := final m) (Z := fun _ => iprop(emp))
    (hX := start_intro m ρ) (hin := enter m) (hout := leave m)
    (QY := Ends m) (hY := read_final m)
    (hQ := fun _ h hs => ⟨fun c => (h c).2.2.1, sem_eq_zero hs fun c => (h c).2.2.2⟩)

end Cert.MaxRun

end
-- ==== Proof.Value.lean ====
/-
  The value of the result at exact real values: each column's maximum, the kernel's and the reference's.
-/
module

public import proofs.«01_k».proof.Proof.Schedule
public import Idealize.ShloMosaic.Lib.Layout
public import Idealize.ShloMosaic.Lib.ValueLayout
public import Idealize.ShloMosaic.Lib.KernelVsHost
public import Idealize.ShloMosaic.PureOps.Ideal.Laws

@[expose] public section

noncomputable section

namespace Cert.MaxRun

open Cert.KernelIdeal Cert.KernelIdeal.Gen
open Idealize.ShloMosaic Idealize.ShloMosaic.TcCoe
open Idealize.ShloMosaic.ValueIdx (ix1 ix2 ix3)

/-! ## The maximum of a column -/

/-- The greatest of finitely many extended reals; `-∞` of none. -/
def top {n : ℕ} (f : Fin n → EReal) : EReal := Finset.univ.sup f

theorem le_top {n : ℕ} (f : Fin n → EReal) (k : Fin n) : f k ≤ top f := Finset.le_sup (Finset.mem_univ k)
theorem top_le {n : ℕ} {f : Fin n → EReal} {a : EReal} (h : ∀ k, f k ≤ a) : top f ≤ a := Finset.sup_le fun k _ => h k

/-- The greatest of eight, one after another. -/
theorem top_eight (f : Fin 8 → EReal) : top f = max (max (max (max (max (max (max (f 0) (f 1)) (f 2)) (f 3)) (f 4)) (f 5)) (f 6)) (f 7) := by
  refine le_antisymm (top_le fun k => ?_) ?_
  · fin_cases k <;> simp
  · simp only [max_le_iff]
    refine ⟨⟨⟨⟨⟨⟨⟨?_, ?_⟩, ?_⟩, ?_⟩, ?_⟩, ?_⟩, ?_⟩, ?_⟩ <;> exact le_top f _

/-- The word the reductions start from is `-∞`. -/
theorem start_bot : (FloatOps.ofBits (F := Ideal) .f32 0xFF800000#32 : EReal) = ⊥ := by
  show (Ideal.ofBits .f32 0xFF800000#32 : EReal) = ⊥
  simp [Ideal.ofBits, Ideal.ieee]

/-- Column `j` with the row put back. -/
theorem lift_row {n : ℕ} (h : (⟨2, ![n, 768]⟩ : Shape).Reduces [0] S768) (j : Fin 768) (k : Fin n) : h.lift (ix1 j) k = ix2 k j :=
  funext fun a => Fin.ext (by fin_cases a <;> rfl)

/-- The kernel's reduction over the rows is each column's maximum. -/
theorem reduce_rows {n : ℕ} (x : FVec Ideal ⟨2, ![n, 768]⟩ .f32) (h : (⟨2, ![n, 768]⟩ : Shape).Reduces [0] S768) (hφ : FKind.Formats .f32)
    (hacc : (0xFF800000#32 : BitVec 32) = FKind.maximumf.neutral .f32 hφ) (j : Fin 768) :
    multiReduction .maximumf [0] S768 x 0xFF800000#32 h hφ hacc (ix1 j) = top fun k : Fin n => x (ix2 k j) := by
  rw [Ideal.multiReduction_maximumf_single, start_bot]
  have e : (x ∘ h.lift (ix1 j)) = fun k : Fin n => x (ix2 k j) := funext fun k => congrArg x (lift_row h j k)
  exact congrArg (fun f : Fin n → EReal => Finset.fold max ⊥ f Finset.univ) e

/-! ## The kernel's value -/

/-- One chunk's row of maxima. -/
def chunkTop (v : Vec Ideal S1x192x768 .f32) : FVec Ideal S1x768 .f32 :=
  shapeCast S1x768 (multiReduction .maximumf [0] S768 (shapeCast S192x768 v shapeCasts_S1x192x768_S192x768 : FVec Ideal S192x768 .f32) 0xFF800000#32 reduces_S192x768_S768 (.inl rfl) rfl)
    shapeCasts_S768_S1x768

theorem chunkTop_apply (v : Vec Ideal S1x192x768 .f32) (j : Fin 768) : chunkTop v (ix2 0 j) = top fun r : Fin 192 => v (ix3 0 r j) := by
  unfold chunkTop
  rw [ValueIdx.shapeCast_a_1a_apply]
  refine (reduce_rows _ _ _ _ j).trans (congrArg top (funext fun r => ?_))
  exact ValueIdx.shapeCast_1ab_ab_apply v _ r j

variable (m : (ℓ : Loc nD τ sig) → Buf (Elt Ideal) ℓ)

/-- What the kernel loads of slab `k` is chunk `k`. -/
theorem slabVal_apply (c : Dev nD) (k : Fin 8) (r : Fin 192) (j : Fin 768) :
    slabVal m c k (ix3 0 r j) = xin m c (ix2 (⟨192 * k.val + r.val, by omega⟩ : Fin 1536) j) := by
  show slabs m c ((slabR k).emb (ix3 0 r j)) = _
  have e : ((slabR k).emb (ix3 0 r j) : S8x192x768.Idx) = ix3 k r j :=
    funext fun a => Fin.ext (by
      fin_cases a
      · show k.val + 1 * 0 = k.val; omega
      · show 0 + 1 * r.val = r.val; omega
      · show 0 + 1 * j.val = j.val; omega)
  exact (congrArg (slabs m c) e)

/-- Device `c`'s part is each column's maximum over the block's rows. -/
theorem part_apply (c : Dev nD) (j : Fin 768) :
    part m c (ix2 0 j) = top fun k : Fin 8 => top fun r : Fin 192 => xin m c (ix2 (⟨192 * k.val + r.val, by omega⟩ : Fin 1536) j) := by
  have h : part m c = shapeCast S1x768 (maximumf (maximumf (maximumf (maximumf (maximumf (maximumf (maximumf (chunkTop (slabVal m c 0)) (chunkTop (slabVal m c 1)))
      (chunkTop (slabVal m c 2))) (chunkTop (slabVal m c 3))) (chunkTop (slabVal m c 4))) (chunkTop (slabVal m c 5))) (chunkTop (slabVal m c 6))) (chunkTop (slabVal m c 7)))
      shapeCasts_S1x768_S1x768 := rfl
  have e (k : Fin 8) : chunkTop (slabVal m c k) (ix2 0 j) = top fun r : Fin 192 => xin m c (ix2 (⟨192 * k.val + r.val, by omega⟩ : Fin 1536) j) :=
    (chunkTop_apply _ j).trans (congrArg top (funext fun r => slabVal_apply m c k r j))
  rw [h, shapeCast_self]
  simp only [ValueIdx.maximumf_apply, e]
  exact (top_eight fun k : Fin 8 => top fun r : Fin 192 => xin m c (ix2 (⟨192 * k.val + r.val, by omega⟩ : Fin 1536) j)).symm

/-- The result is each column's maximum over the devices' parts. -/
theorem result_apply (j : Fin 768) : result m (ix2 0 j) = top fun c : Dev nD => part m c (ix2 0 j) := by
  have h : result m = shapeCast S1x768 (shapeCast S1x768 (multiReduction .maximumf [0] S768 (rows m : FVec Ideal S8x768 .f32) 0xFF800000#32 reduces_S8x768_S768 (.inl rfl) rfl)
      shapeCasts_S768_S1x768) shapeCasts_S1x768_S1x768 := rfl
  rw [h, shapeCast_self, ValueIdx.shapeCast_a_1a_apply]
  exact reduce_rows (n := 8) (rows m : FVec Ideal S8x768 .f32) _ _ _ j

/-! ## The whole array -/

/-- Row `r` of chunk `k` of device `c`'s block, as a row of the whole array. -/
def wholeRow (c k : Fin 8) (r : Fin 192) : Fin 12288 := ⟨c.val * 1536 + (192 * k.val + r.val), by omega⟩

/-- A maximum over all rows is the maximum over devices, chunks and rows of a chunk. -/
theorem top_split (f : Fin 12288 → EReal) : (top fun c : Fin 8 => top fun k : Fin 8 => top fun r : Fin 192 => f (wholeRow c k r)) = top f := by
  refine le_antisymm (top_le fun c => top_le fun k => top_le fun r => le_top f _) (top_le fun i => ?_)
  have e : i = wholeRow ⟨i.val / 1536, by omega⟩ ⟨i.val % 1536 / 192, by omega⟩ ⟨i.val % 192, by omega⟩ :=
    Fin.ext (by show i.val = i.val / 1536 * 1536 + (192 * (i.val % 1536 / 192) + i.val % 192); omega)
  rw [e]
  exact (le_top (fun r : Fin 192 => f (wholeRow _ _ r)) _).trans ((le_top (fun k : Fin 8 => top fun r : Fin 192 => f (wholeRow _ k r)) _).trans
    (le_top (fun c : Fin 8 => top fun k : Fin 8 => top fun r : Fin 192 => f (wholeRow c k r)) _))

/-- If each device's argument is its block of `X`, the result is each column's maximum over all rows of `X`. -/
theorem result_whole (X : FVec Ideal ⟨2, ![12288, 768]⟩ .f32)
    (hX : ∀ c : Dev nD, xin m c = Layout.block ⟨2, ![1536, 768]⟩ ⟨2, ![12288, 768]⟩ 0 8 c X) (j : Fin 768) :
    result m (ix2 0 j) = top fun i : Fin 12288 => X (ix2 i j) := by
  rw [result_apply, ← top_split]
  refine congrArg top (funext fun c => ?_)
  rw [part_apply]
  refine congrArg top (funext fun k => congrArg top (funext fun r => ?_))
  rw [hX c, Layout.block_apply]
  exact congrArg X (funext fun a => Fin.ext (by fin_cases a <;> rfl))

/-! ## The reference's value -/

/-- A vector laid out as one row. -/
theorem one_row {α : Type} (hb : S768.BroadcastsInDim S1x768 ![1]) (x : S768.Idx → α) (j : Fin 768) : broadcastInDim S1x768 ![1] hb x (ix2 0 j) = x (ix1 j) := by
  unfold broadcastInDim
  refine congrArg x (funext fun a => Fin.ext ?_)
  obtain rfl : a = 0 := Subsingleton.elim _ _
  rw [dif_neg (show ¬ S768.size 0 = 1 by decide)]
  rfl

/-- The reference's reduction over all rows, laid out as one row, is each column's maximum. -/
theorem reference_apply (X : FVec Ideal ⟨2, ![12288, 768]⟩ .f32) (h : (⟨2, ![12288, 768]⟩ : Shape).ReducesTo [0] S768) (hu : 0 < (⟨0, ![]⟩ : Shape).numel)
    (hb : S768.BroadcastsInDim S1x768 ![1]) (j : Fin 768) :
    broadcastInDim S1x768 ![1] hb (Host.reduce FloatOps.maximumf X (constant (F := Ideal) ⟨0, ![]⟩ .f32 0xFF800000#32) h hu) (ix2 0 j) = top fun i : Fin 12288 => X (ix2 i j) := by
  rw [one_row, hostReduce_maximumf_eq_multiReduction X 0xFF800000#32 h hu (by decide) (.inl rfl) rfl]
  exact reduce_rows X _ _ _ j

/-- The kernel's result is the reference's. -/
theorem result_eq (X : FVec Ideal ⟨2, ![12288, 768]⟩ .f32)
    (hX : ∀ c : Dev nD, xin m c = Layout.block ⟨2, ![1536, 768]⟩ ⟨2, ![12288, 768]⟩ 0 8 c X)
    (h : (⟨2, ![12288, 768]⟩ : Shape).ReducesTo [0] S768) (hu : 0 < (⟨0, ![]⟩ : Shape).numel) (hb : S768.BroadcastsInDim S1x768 ![1]) :
    result m = broadcastInDim S1x768 ![1] hb (Host.reduce FloatOps.maximumf X (constant (F := Ideal) ⟨0, ![]⟩ .f32 0xFF800000#32) h hu) := by
  funext i
  obtain ⟨u, j, rfl⟩ : ∃ (u : Fin 1) (j : Fin 768), i = ix2 u j := ⟨i 0, i 1, ValueIdx.eq_ix2 i⟩
  obtain rfl : u = 0 := Subsingleton.elim _ _
  rw [result_whole m X hX, reference_apply]

end Cert.MaxRun

end
-- ==== Proof.lean ====
/-
  The certificate: the kernel and the reference run, leave their arguments and every counter as they were, and compute the same maxima.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel as printed runs, its argument unchanged and every counter zero at the end: its program is, operation by operation, the one whose run is proved for all float values. -/
theorem frame_kernel : Cert.quiescent_Kernel := fun m ρ _ =>
  (θ_run (Cert.KernelIdeal.defs (F := Bits)) _ _).mono (fun _ h => ⟨fun c => (h.1 c).1, h.2⟩) (Cert.MaxRun.run_main (F := Bits) m ρ)

/-- The kernel at exact real values runs, its argument unchanged and every counter zero at the end. -/
theorem frame_kernelIdeal : Cert.quiescent_KernelIdeal := fun m ρ _ =>
  (θ_run Cert.KernelIdeal.defs _ _).mono (fun _ h => ⟨fun c => (h.1 c).1, h.2⟩) (Cert.MaxRun.run_main (F := Ideal) m ρ)

/-- The reference runs, its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- On the eight devices holding the blocks of one array, the kernel's result on each is the reference's of the whole array. -/
theorem algebraic : Cert.algebraic_KernelIdeal_ReferenceIdeal := fun m ρ m' ρ' _ hX =>
  ⟨_, (θ_run Cert.KernelIdeal.defs _ _).mono (fun _ h c => ⟨(h.1 c).2.trans (Cert.MaxRun.result_eq m _ hX _ _ _), (h.1 c).1⟩) (Cert.MaxRun.run_main (F := Ideal) m ρ),
    (θ_run Cert.ReferenceIdeal.defs _ _).mono (fun _ h => h 0) (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
